-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S48x16384x10 : Shape := ⟨3, ![48, 16384, 10]⟩
abbrev S40x160 : Shape := ⟨2, ![40, 160]⟩
abbrev S160 : Shape := ⟨1, ![160]⟩
abbrev S_ : Shape := ⟨0, ![]⟩

class Facts : Prop where
  bcast_S_S48x16384x10 : S_.BroadcastsInDim S48x16384x10 (![] : Fin 0 → Fin S48x16384x10.rank)
  reducesTo_S48x16384x10_S_d0_1_2 : S48x16384x10.ReducesTo [0, 1, 2] S_
  h_S_ : 0 < S_.numel

variable [Facts]

def fn {F : FTy → Type} [FloatOps F] (main_arg0 : IVec S48x16384x10 32) (main_arg1 : FVec F S40x160 .fp8e4m3) (main_arg2 : FVec F S160 .f32) (main_arg3 : FVec F S160 .f32) : IVec S_ 1 :=
  let main_c : IVec S_ 32 := constantI S_ 32 0#32
  let main_v0 : IVec S48x16384x10 32 := broadcastInDim S48x16384x10 ![] bcast_S_S48x16384x10 main_c
  let main_v1 : IVec S48x16384x10 1 := cmpi .sge main_arg0 main_v0
  let main_c_0 : IVec S_ 32 := constantI S_ 32 1000#32
  let main_v2 : IVec S48x16384x10 32 := broadcastInDim S48x16384x10 ![] bcast_S_S48x16384x10 main_c_0
  let main_v3 : IVec S48x16384x10 1 := cmpi .slt main_arg0 main_v2
  let main_v4 : IVec S48x16384x10 1 := andi main_v1 main_v3
  let main_c_1 : IVec S_ 1 := constantI S_ 1 1#1
  let main_v5 : IVec S_ 1 := (fun x v => Host.reduce IntOp.andi x v reducesTo_S48x16384x10_S_d0_1_2 h_S_) main_v4 main_c_1
  main_v5
-- ==== Kernel.lean ====
abbrev S48x16384x10 : Shape := ⟨3, ![48, 16384, 10]⟩
abbrev S40x160 : Shape := ⟨2, ![40, 160]⟩
abbrev S160 : Shape := ⟨1, ![160]⟩
abbrev S10x48x16384 : Shape := ⟨3, ![10, 48, 16384]⟩
abbrev S10x6x8x128x128 : Shape := ⟨5, ![10, 6, 8, 128, 128]⟩
abbrev S10x6x128x8x128 : Shape := ⟨5, ![10, 6, 128, 8, 128]⟩
abbrev S1x160 : Shape := ⟨2, ![1, 160]⟩
abbrev S48x160x16384 : Shape := ⟨3, ![48, 160, 16384]⟩
abbrev S10x1x16x8x128 : Shape := ⟨5, ![10, 1, 16, 8, 128]⟩
abbrev S8x160x2048 : Shape := ⟨3, ![8, 160, 2048]⟩
abbrev S8x2x160x128 : Shape := ⟨4, ![8, 2, 160, 128]⟩
abbrev S160x128 : Shape := ⟨2, ![160, 128]⟩
abbrev S40x128 : Shape := ⟨2, ![40, 128]⟩
abbrev S1x1x160x128 : Shape := ⟨4, ![1, 1, 160, 128]⟩
abbrev S128x160 : Shape := ⟨2, ![128, 160]⟩
abbrev S1x1x1x8x128 : Shape := ⟨5, ![1, 1, 1, 8, 128]⟩
abbrev S8x128 : Shape := ⟨2, ![8, 128]⟩
abbrev S16x128 : Shape := ⟨2, ![16, 128]⟩
abbrev S64x128 : Shape := ⟨2, ![64, 128]⟩
abbrev S64x256 : Shape := ⟨2, ![64, 256]⟩
abbrev S1280x128 : Shape := ⟨2, ![1280, 128]⟩
abbrev S8x256 : Shape := ⟨2, ![8, 256]⟩
abbrev S16x256 : Shape := ⟨2, ![16, 256]⟩
abbrev S128x256 : Shape := ⟨2, ![128, 256]⟩
abbrev S160x256 : Shape := ⟨2, ![160, 256]⟩
abbrev S1x160x128 : Shape := ⟨3, ![1, 160, 128]⟩
abbrev S48x16384x160 : Shape := ⟨3, ![48, 16384, 160]⟩

abbrev nBuf : Space → Nat
  | .hbm => 11
  | .vmem => 10
  | .smem => 0
  | _ => 0

abbrev bufTy : (tb : Table) → Fin (tcTables nBuf tb) → BufTy
  | .hbm, ⟨0, _⟩ => ⟨S48x16384x10, .i32⟩
  | .hbm, ⟨1, _⟩ => ⟨S40x160, .fp8e4m3⟩
  | .hbm, ⟨2, _⟩ => ⟨S160, .f32⟩
  | .hbm, ⟨3, _⟩ => ⟨S160, .f32⟩
  | .hbm, ⟨4, _⟩ => ⟨S10x48x16384, .i32⟩
  | .hbm, ⟨5, _⟩ => ⟨S10x6x8x128x128, .i32⟩
  | .hbm, ⟨6, _⟩ => ⟨S10x6x128x8x128, .i32⟩
  | .hbm, ⟨7, _⟩ => ⟨S1x160, .f32⟩
  | .hbm, ⟨8, _⟩ => ⟨S1x160, .f32⟩
  | .hbm, ⟨9, _⟩ => ⟨S48x160x16384, .bf16⟩
  | .hbm, ⟨10, _⟩ => ⟨S48x16384x160, .bf16⟩
  | .local _ .vmem, ⟨0, _⟩ => ⟨S10x1x16x8x128, .i32⟩
  | .local _ .vmem, ⟨1, _⟩ => ⟨S10x1x16x8x128, .i32⟩
  | .local _ .vmem, ⟨2, _⟩ => ⟨S40x160, .fp8e4m3⟩
  | .local _ .vmem, ⟨3, _⟩ => ⟨S1x160, .f32⟩
  | .local _ .vmem, ⟨4, _⟩ => ⟨S1x160, .f32⟩
  | .local _ .vmem, ⟨5, _⟩ => ⟨S8x160x2048, .bf16⟩
  | .local _ .vmem, ⟨6, _⟩ => ⟨S8x160x2048, .bf16⟩
  | .local _ .vmem, ⟨7, _⟩ => ⟨S8x2x160x128, .bf16⟩
  | .local _ .vmem, ⟨8, _⟩ => ⟨S160x128, .f32⟩
  | .local _ .vmem, ⟨9, _⟩ => ⟨S160x128, .f32⟩
  | _, _ => ⟨S48x16384x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![6, 8], ![false, false]⟩

@[reducible] def k0_t1_loop : Scf.Loop 32 :=
  let c0_i32_2 : BitVec 32 := 0#32
  let c4_i32 : BitVec 32 := 4#32
  let v5 : BitVec 32 := Scalar.addi c0_i32_2 c4_i32
  let c1_i32 : BitVec 32 := 1#32
  ⟨c0_i32_2, v5, c1_i32⟩
def k0_off1 (k0_t1 : Fin k0_t1_loop.trips) (c0_i32_5 : BitVec 32) : Fin 5 → Nat :=
  let c8 : Index := 8#32
  let c0 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v7 : BitVec 32 := Scalar.addi v6 c0_i32_5
  let v8 : Index := Scalar.indexCast v7
  let c0_6 : Index := 0#32
  let c0_7 : Index := 0#32
  ![8, 0, v8.toNat, 0, 0]
def k0_off2 (k0_t1 : Fin k0_t1_loop.trips) (c0_i32_8 : BitVec 32) : Fin 5 → Nat :=
  let c9 : Index := 9#32
  let c0_9 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v11 : BitVec 32 := Scalar.addi v6 c0_i32_8
  let v12 : Index := Scalar.indexCast v11
  let c0_10 : Index := 0#32
  let c0_11 : Index := 0#32
  ![9, 0, v12.toNat, 0, 0]
def k0_off3 (k0_t1 : Fin k0_t1_loop.trips) (c0_i32_124 : BitVec 32) (c0_i32_125 : BitVec 32) : Fin 2 → Nat :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v265 : BitVec 32 := Scalar.addi v6 c0_i32_124
  let c8_i32 : BitVec 32 := 8#32
  let v266 : BitVec 32 := Scalar.muli v265 c8_i32
  let v267 : BitVec 32 := Scalar.addi v266 c0_i32_125
  let v269 : Index := Scalar.indexCast v267
  let c0_126 : Index := 0#32
  ![v269.toNat, 0]
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_172 : BitVec 32 := 0#32
  let v360 : BitVec 32 := Scalar.addi v6 c0_i32_172
  let c0_i32_173 : BitVec 32 := 0#32
  let v361 : BitVec 32 := Scalar.addi v360 c0_i32_173
  let c128_i32 : BitVec 32 := 128#32
  let v362 : BitVec 32 := Scalar.muli v361 c128_i32
  v362
def k0_off4 (k0_t1 : Fin k0_t1_loop.trips) (c0_i32_172 : BitVec 32) (c0_i32_173 : BitVec 32) : Fin 3 → Nat :=
  let c0_174 : Index := 0#32
  let c0_175 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v360 : BitVec 32 := Scalar.addi v6 c0_i32_172
  let v361 : BitVec 32 := Scalar.addi v360 c0_i32_173
  let c128_i32 : BitVec 32 := 128#32
  let v362 : BitVec 32 := Scalar.muli v361 c128_i32
  let v363 : BitVec 32 := v362
  let v365 : Index := Scalar.indexCast v363
  ![0, 0, v365.toNat]
def k0_mult2 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_180 : BitVec 32 := 0#32
  let v374 : BitVec 32 := Scalar.addi v6 c0_i32_180
  let c1_i32_181 : BitVec 32 := 1#32
  let v375 : BitVec 32 := Scalar.addi v374 c1_i32_181
  let c128_i32_182 : BitVec 32 := 128#32
  let v376 : BitVec 32 := Scalar.muli v375 c128_i32_182
  v376
def k0_mult3 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_193 : BitVec 32 := 2#32
  let v392 : BitVec 32 := Scalar.addi v6 c2_i32_193
  let c0_i32_194 : BitVec 32 := 0#32
  let v393 : BitVec 32 := Scalar.addi v392 c0_i32_194
  let c128_i32_195 : BitVec 32 := 128#32
  let v394 : BitVec 32 := Scalar.muli v393 c128_i32_195
  v394
def k0_mult4 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_202 : BitVec 32 := 2#32
  let v406 : BitVec 32 := Scalar.addi v6 c2_i32_202
  let c1_i32_203 : BitVec 32 := 1#32
  let v407 : BitVec 32 := Scalar.addi v406 c1_i32_203
  let c128_i32_204 : BitVec 32 := 128#32
  let v408 : BitVec 32 := Scalar.muli v407 c128_i32_204
  v408
def k0_mult5 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_256 : BitVec 32 := 0#32
  let v510 : BitVec 32 := Scalar.addi v6 c0_i32_256
  let c0_i32_257 : BitVec 32 := 0#32
  let v511 : BitVec 32 := Scalar.addi v510 c0_i32_257
  let c128_i32_258 : BitVec 32 := 128#32
  let v512 : BitVec 32 := Scalar.muli v511 c128_i32_258
  v512
def k0_off5 (k0_t1 : Fin k0_t1_loop.trips) (c0_i32_256 : BitVec 32) (c0_i32_257 : BitVec 32) : Fin 3 → Nat :=
  let c1_259 : Index := 1#32
  let c0_260 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v510 : BitVec 32 := Scalar.addi v6 c0_i32_256
  let v511 : BitVec 32 := Scalar.addi v510 c0_i32_257
  let c128_i32_258 : BitVec 32 := 128#32
  let v512 : BitVec 32 := Scalar.muli v511 c128_i32_258
  let v513 : BitVec 32 := v512
  let v515 : Index := Scalar.indexCast v513
  ![1, 0, v515.toNat]
def k0_mult6 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_265 : BitVec 32 := 0#32
  let v524 : BitVec 32 := Scalar.addi v6 c0_i32_265
  let c1_i32_266 : BitVec 32 := 1#32
  let v525 : BitVec 32 := Scalar.addi v524 c1_i32_266
  let c128_i32_267 : BitVec 32 := 128#32
  let v526 : BitVec 32 := Scalar.muli v525 c128_i32_267
  v526
def k0_mult7 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_279 : BitVec 32 := 2#32
  let v542 : BitVec 32 := Scalar.addi v6 c2_i32_279
  let c0_i32_280 : BitVec 32 := 0#32
  let v543 : BitVec 32 := Scalar.addi v542 c0_i32_280
  let c128_i32_281 : BitVec 32 := 128#32
  let v544 : BitVec 32 := Scalar.muli v543 c128_i32_281
  v544
def k0_mult8 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_288 : BitVec 32 := 2#32
  let v556 : BitVec 32 := Scalar.addi v6 c2_i32_288
  let c1_i32_289 : BitVec 32 := 1#32
  let v557 : BitVec 32 := Scalar.addi v556 c1_i32_289
  let c128_i32_290 : BitVec 32 := 128#32
  let v558 : BitVec 32 := Scalar.muli v557 c128_i32_290
  v558
def k0_mult9 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_341 : BitVec 32 := 0#32
  let v660 : BitVec 32 := Scalar.addi v6 c0_i32_341
  let c0_i32_342 : BitVec 32 := 0#32
  let v661 : BitVec 32 := Scalar.addi v660 c0_i32_342
  let c128_i32_343 : BitVec 32 := 128#32
  let v662 : BitVec 32 := Scalar.muli v661 c128_i32_343
  v662
def k0_off6 (k0_t1 : Fin k0_t1_loop.trips) (c0_i32_341 : BitVec 32) (c0_i32_342 : BitVec 32) : Fin 3 → Nat :=
  let c2_344 : Index := 2#32
  let c0_345 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v660 : BitVec 32 := Scalar.addi v6 c0_i32_341
  let v661 : BitVec 32 := Scalar.addi v660 c0_i32_342
  let c128_i32_343 : BitVec 32 := 128#32
  let v662 : BitVec 32 := Scalar.muli v661 c128_i32_343
  let v663 : BitVec 32 := v662
  let v665 : Index := Scalar.indexCast v663
  ![2, 0, v665.toNat]
def k0_mult10 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_350 : BitVec 32 := 0#32
  let v674 : BitVec 32 := Scalar.addi v6 c0_i32_350
  let c1_i32_351 : BitVec 32 := 1#32
  let v675 : BitVec 32 := Scalar.addi v674 c1_i32_351
  let c128_i32_352 : BitVec 32 := 128#32
  let v676 : BitVec 32 := Scalar.muli v675 c128_i32_352
  v676
def k0_mult11 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_364 : BitVec 32 := 2#32
  let v692 : BitVec 32 := Scalar.addi v6 c2_i32_364
  let c0_i32_365 : BitVec 32 := 0#32
  let v693 : BitVec 32 := Scalar.addi v692 c0_i32_365
  let c128_i32_366 : BitVec 32 := 128#32
  let v694 : BitVec 32 := Scalar.muli v693 c128_i32_366
  v694
def k0_mult12 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_373 : BitVec 32 := 2#32
  let v706 : BitVec 32 := Scalar.addi v6 c2_i32_373
  let c1_i32_374 : BitVec 32 := 1#32
  let v707 : BitVec 32 := Scalar.addi v706 c1_i32_374
  let c128_i32_375 : BitVec 32 := 128#32
  let v708 : BitVec 32 := Scalar.muli v707 c128_i32_375
  v708
def k0_mult13 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_426 : BitVec 32 := 0#32
  let v810 : BitVec 32 := Scalar.addi v6 c0_i32_426
  let c0_i32_427 : BitVec 32 := 0#32
  let v811 : BitVec 32 := Scalar.addi v810 c0_i32_427
  let c128_i32_428 : BitVec 32 := 128#32
  let v812 : BitVec 32 := Scalar.muli v811 c128_i32_428
  v812
def k0_off7 (k0_t1 : Fin k0_t1_loop.trips) (c0_i32_426 : BitVec 32) (c0_i32_427 : BitVec 32) : Fin 3 → Nat :=
  let c3_429 : Index := 3#32
  let c0_430 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v810 : BitVec 32 := Scalar.addi v6 c0_i32_426
  let v811 : BitVec 32 := Scalar.addi v810 c0_i32_427
  let c128_i32_428 : BitVec 32 := 128#32
  let v812 : BitVec 32 := Scalar.muli v811 c128_i32_428
  let v813 : BitVec 32 := v812
  let v815 : Index := Scalar.indexCast v813
  ![3, 0, v815.toNat]
def k0_mult14 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_435 : BitVec 32 := 0#32
  let v824 : BitVec 32 := Scalar.addi v6 c0_i32_435
  let c1_i32_436 : BitVec 32 := 1#32
  let v825 : BitVec 32 := Scalar.addi v824 c1_i32_436
  let c128_i32_437 : BitVec 32 := 128#32
  let v826 : BitVec 32 := Scalar.muli v825 c128_i32_437
  v826
def k0_mult15 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_449 : BitVec 32 := 2#32
  let v842 : BitVec 32 := Scalar.addi v6 c2_i32_449
  let c0_i32_450 : BitVec 32 := 0#32
  let v843 : BitVec 32 := Scalar.addi v842 c0_i32_450
  let c128_i32_451 : BitVec 32 := 128#32
  let v844 : BitVec 32 := Scalar.muli v843 c128_i32_451
  v844
def k0_mult16 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_458 : BitVec 32 := 2#32
  let v856 : BitVec 32 := Scalar.addi v6 c2_i32_458
  let c1_i32_459 : BitVec 32 := 1#32
  let v857 : BitVec 32 := Scalar.addi v856 c1_i32_459
  let c128_i32_460 : BitVec 32 := 128#32
  let v858 : BitVec 32 := Scalar.muli v857 c128_i32_460
  v858
def k0_mult17 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_511 : BitVec 32 := 0#32
  let v960 : BitVec 32 := Scalar.addi v6 c0_i32_511
  let c0_i32_512 : BitVec 32 := 0#32
  let v961 : BitVec 32 := Scalar.addi v960 c0_i32_512
  let c128_i32_513 : BitVec 32 := 128#32
  let v962 : BitVec 32 := Scalar.muli v961 c128_i32_513
  v962
def k0_off8 (k0_t1 : Fin k0_t1_loop.trips) (c0_i32_511 : BitVec 32) (c0_i32_512 : BitVec 32) : Fin 3 → Nat :=
  let c4_514 : Index := 4#32
  let c0_515 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v960 : BitVec 32 := Scalar.addi v6 c0_i32_511
  let v961 : BitVec 32 := Scalar.addi v960 c0_i32_512
  let c128_i32_513 : BitVec 32 := 128#32
  let v962 : BitVec 32 := Scalar.muli v961 c128_i32_513
  let v963 : BitVec 32 := v962
  let v965 : Index := Scalar.indexCast v963
  ![4, 0, v965.toNat]
def k0_mult18 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_520 : BitVec 32 := 0#32
  let v974 : BitVec 32 := Scalar.addi v6 c0_i32_520
  let c1_i32_521 : BitVec 32 := 1#32
  let v975 : BitVec 32 := Scalar.addi v974 c1_i32_521
  let c128_i32_522 : BitVec 32 := 128#32
  let v976 : BitVec 32 := Scalar.muli v975 c128_i32_522
  v976
def k0_mult19 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_534 : BitVec 32 := 2#32
  let v992 : BitVec 32 := Scalar.addi v6 c2_i32_534
  let c0_i32_535 : BitVec 32 := 0#32
  let v993 : BitVec 32 := Scalar.addi v992 c0_i32_535
  let c128_i32_536 : BitVec 32 := 128#32
  let v994 : BitVec 32 := Scalar.muli v993 c128_i32_536
  v994
def k0_mult20 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_543 : BitVec 32 := 2#32
  let v1006 : BitVec 32 := Scalar.addi v6 c2_i32_543
  let c1_i32_544 : BitVec 32 := 1#32
  let v1007 : BitVec 32 := Scalar.addi v1006 c1_i32_544
  let c128_i32_545 : BitVec 32 := 128#32
  let v1008 : BitVec 32 := Scalar.muli v1007 c128_i32_545
  v1008
def k0_mult21 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_595 : BitVec 32 := 0#32
  let v1110 : BitVec 32 := Scalar.addi v6 c0_i32_595
  let c0_i32_596 : BitVec 32 := 0#32
  let v1111 : BitVec 32 := Scalar.addi v1110 c0_i32_596
  let c128_i32_597 : BitVec 32 := 128#32
  let v1112 : BitVec 32 := Scalar.muli v1111 c128_i32_597
  v1112
def k0_off9 (k0_t1 : Fin k0_t1_loop.trips) (c0_i32_595 : BitVec 32) (c0_i32_596 : BitVec 32) : Fin 3 → Nat :=
  let c5_598 : Index := 5#32
  let c0_599 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v1110 : BitVec 32 := Scalar.addi v6 c0_i32_595
  let v1111 : BitVec 32 := Scalar.addi v1110 c0_i32_596
  let c128_i32_597 : BitVec 32 := 128#32
  let v1112 : BitVec 32 := Scalar.muli v1111 c128_i32_597
  let v1113 : BitVec 32 := v1112
  let v1115 : Index := Scalar.indexCast v1113
  ![5, 0, v1115.toNat]
def k0_mult22 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_604 : BitVec 32 := 0#32
  let v1124 : BitVec 32 := Scalar.addi v6 c0_i32_604
  let c1_i32_605 : BitVec 32 := 1#32
  let v1125 : BitVec 32 := Scalar.addi v1124 c1_i32_605
  let c128_i32_606 : BitVec 32 := 128#32
  let v1126 : BitVec 32 := Scalar.muli v1125 c128_i32_606
  v1126
def k0_mult23 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_618 : BitVec 32 := 2#32
  let v1142 : BitVec 32 := Scalar.addi v6 c2_i32_618
  let c0_i32_619 : BitVec 32 := 0#32
  let v1143 : BitVec 32 := Scalar.addi v1142 c0_i32_619
  let c128_i32_620 : BitVec 32 := 128#32
  let v1144 : BitVec 32 := Scalar.muli v1143 c128_i32_620
  v1144
def k0_mult24 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_627 : BitVec 32 := 2#32
  let v1156 : BitVec 32 := Scalar.addi v6 c2_i32_627
  let c1_i32_628 : BitVec 32 := 1#32
  let v1157 : BitVec 32 := Scalar.addi v1156 c1_i32_628
  let c128_i32_629 : BitVec 32 := 128#32
  let v1158 : BitVec 32 := Scalar.muli v1157 c128_i32_629
  v1158
def k0_mult25 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_680 : BitVec 32 := 0#32
  let v1260 : BitVec 32 := Scalar.addi v6 c0_i32_680
  let c0_i32_681 : BitVec 32 := 0#32
  let v1261 : BitVec 32 := Scalar.addi v1260 c0_i32_681
  let c128_i32_682 : BitVec 32 := 128#32
  let v1262 : BitVec 32 := Scalar.muli v1261 c128_i32_682
  v1262
def k0_off10 (k0_t1 : Fin k0_t1_loop.trips) (c0_i32_680 : BitVec 32) (c0_i32_681 : BitVec 32) : Fin 3 → Nat :=
  let c6_683 : Index := 6#32
  let c0_684 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v1260 : BitVec 32 := Scalar.addi v6 c0_i32_680
  let v1261 : BitVec 32 := Scalar.addi v1260 c0_i32_681
  let c128_i32_682 : BitVec 32 := 128#32
  let v1262 : BitVec 32 := Scalar.muli v1261 c128_i32_682
  let v1263 : BitVec 32 := v1262
  let v1265 : Index := Scalar.indexCast v1263
  ![6, 0, v1265.toNat]
def k0_mult26 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_689 : BitVec 32 := 0#32
  let v1274 : BitVec 32 := Scalar.addi v6 c0_i32_689
  let c1_i32_690 : BitVec 32 := 1#32
  let v1275 : BitVec 32 := Scalar.addi v1274 c1_i32_690
  let c128_i32_691 : BitVec 32 := 128#32
  let v1276 : BitVec 32 := Scalar.muli v1275 c128_i32_691
  v1276
def k0_mult27 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_703 : BitVec 32 := 2#32
  let v1292 : BitVec 32 := Scalar.addi v6 c2_i32_703
  let c0_i32_704 : BitVec 32 := 0#32
  let v1293 : BitVec 32 := Scalar.addi v1292 c0_i32_704
  let c128_i32_705 : BitVec 32 := 128#32
  let v1294 : BitVec 32 := Scalar.muli v1293 c128_i32_705
  v1294
def k0_mult28 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_712 : BitVec 32 := 2#32
  let v1306 : BitVec 32 := Scalar.addi v6 c2_i32_712
  let c1_i32_713 : BitVec 32 := 1#32
  let v1307 : BitVec 32 := Scalar.addi v1306 c1_i32_713
  let c128_i32_714 : BitVec 32 := 128#32
  let v1308 : BitVec 32 := Scalar.muli v1307 c128_i32_714
  v1308
def k0_mult29 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_764 : BitVec 32 := 0#32
  let v1410 : BitVec 32 := Scalar.addi v6 c0_i32_764
  let c0_i32_765 : BitVec 32 := 0#32
  let v1411 : BitVec 32 := Scalar.addi v1410 c0_i32_765
  let c128_i32_766 : BitVec 32 := 128#32
  let v1412 : BitVec 32 := Scalar.muli v1411 c128_i32_766
  v1412
def k0_off11 (k0_t1 : Fin k0_t1_loop.trips) (c0_i32_764 : BitVec 32) (c0_i32_765 : BitVec 32) : Fin 3 → Nat :=
  let c7_767 : Index := 7#32
  let c0_768 : Index := 0#32
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let v1410 : BitVec 32 := Scalar.addi v6 c0_i32_764
  let v1411 : BitVec 32 := Scalar.addi v1410 c0_i32_765
  let c128_i32_766 : BitVec 32 := 128#32
  let v1412 : BitVec 32 := Scalar.muli v1411 c128_i32_766
  let v1413 : BitVec 32 := v1412
  let v1415 : Index := Scalar.indexCast v1413
  ![7, 0, v1415.toNat]
def k0_mult30 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c0_i32_773 : BitVec 32 := 0#32
  let v1424 : BitVec 32 := Scalar.addi v6 c0_i32_773
  let c1_i32_774 : BitVec 32 := 1#32
  let v1425 : BitVec 32 := Scalar.addi v1424 c1_i32_774
  let c128_i32_775 : BitVec 32 := 128#32
  let v1426 : BitVec 32 := Scalar.muli v1425 c128_i32_775
  v1426
def k0_mult31 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_787 : BitVec 32 := 2#32
  let v1442 : BitVec 32 := Scalar.addi v6 c2_i32_787
  let c0_i32_788 : BitVec 32 := 0#32
  let v1443 : BitVec 32 := Scalar.addi v1442 c0_i32_788
  let c128_i32_789 : BitVec 32 := 128#32
  let v1444 : BitVec 32 := Scalar.muli v1443 c128_i32_789
  v1444
def k0_mult32 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c4_i32_4 : BitVec 32 := 4#32
  let v6 : BitVec 32 := Scalar.muli arg10 c4_i32_4
  let c2_i32_796 : BitVec 32 := 2#32
  let v1456 : BitVec 32 := Scalar.addi v6 c2_i32_796
  let c1_i32_797 : BitVec 32 := 1#32
  let v1457 : BitVec 32 := Scalar.addi v1456 c1_i32_797
  let c128_i32_798 : BitVec 32 := 128#32
  let v1458 : BitVec 32 := Scalar.muli v1457 c128_i32_798
  v1458
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S10x1x16x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x160x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S48x16384x10 : Shape := ⟨3, ![48, 16384, 10]⟩
abbrev S40x160 : Shape := ⟨2, ![40, 160]⟩
abbrev S160 : Shape := ⟨1, ![160]⟩
abbrev S4 : Shape := ⟨1, ![4]⟩
abbrev S48x16384x10x1 : Shape := ⟨4, ![48, 16384, 10, 1]⟩
abbrev S1x1x1x4 : Shape := ⟨4, ![1, 1, 1, 4]⟩
abbrev S48x16384x10x4 : Shape := ⟨4, ![48, 16384, 10, 4]⟩
abbrev S_ : Shape := ⟨0, ![]⟩
abbrev S48x16384x40 : Shape := ⟨3, ![48, 16384, 40]⟩
abbrev S48x16384x160 : Shape := ⟨3, ![48, 16384, 160]⟩
abbrev S1x1x160 : Shape := ⟨3, ![1, 1, 160]⟩

abbrev nBuf : Space → Nat
  | .hbm => 70
  | .vmem => 2
  | .smem => 0
  | _ => 0

abbrev bufTy : (tb : Table) → Fin (tcTables nBuf tb) → BufTy
  | .hbm, ⟨0, _⟩ => ⟨S48x16384x10, .i32⟩
  | .hbm, ⟨1, _⟩ => ⟨S40x160, .fp8e4m3⟩
  | .hbm, ⟨2, _⟩ => ⟨S160, .f32⟩
  | .hbm, ⟨3, _⟩ => ⟨S160, .f32⟩
  | .hbm, ⟨4, _⟩ => ⟨S4, .i32⟩
  | .hbm, ⟨5, _⟩ => ⟨S4, .i32⟩
  | .hbm, ⟨6, _⟩ => ⟨S4, .f32⟩
  | .hbm, ⟨7, _⟩ => ⟨S48x16384x10x1, .i32⟩
  | .hbm, ⟨8, _⟩ => ⟨S1x1x1x4, .i32⟩
  | .hbm, ⟨9, _⟩ => ⟨S48x16384x10x4, .i32⟩
  | .hbm, ⟨10, _⟩ => ⟨S48x16384x10x4, .i32⟩
  | .hbm, ⟨11, _⟩ => ⟨S48x16384x10x4, .i32⟩
  | .hbm, ⟨12, _⟩ => ⟨S48x16384x10x1, .i32⟩
  | .hbm, ⟨13, _⟩ => ⟨S1x1x1x4, .i32⟩
  | .hbm, ⟨14, _⟩ => ⟨S48x16384x10x4, .i32⟩
  | .hbm, ⟨15, _⟩ => ⟨S48x16384x10x4, .i32⟩
  | .hbm, ⟨16, _⟩ => ⟨S48x16384x10x4, .i1⟩
  | .hbm, ⟨17, _⟩ => ⟨S48x16384x10x4, .i32⟩
  | .hbm, ⟨18, _⟩ => ⟨S48x16384x10x4, .i32⟩
  | .hbm, ⟨19, _⟩ => ⟨S48x16384x10x4, .i32⟩
  | .hbm, ⟨20, _⟩ => ⟨S_, .i32⟩
  | .hbm, ⟨21, _⟩ => ⟨S48x16384x10x4, .i32⟩
  | .hbm, ⟨22, _⟩ => ⟨S48x16384x10x4, .i1⟩
  | .hbm, ⟨23, _⟩ => ⟨S48x16384x10x4, .i1⟩
  | .hbm, ⟨24, _⟩ => ⟨S_, .i32⟩
  | .hbm, ⟨25, _⟩ => ⟨S48x16384x10x4, .i32⟩
  | .hbm, ⟨26, _⟩ => ⟨S48x16384x10x4, .i32⟩
  | .hbm, ⟨27, _⟩ => ⟨S48x16384x10x4, .i32⟩
  | .hbm, ⟨28, _⟩ => ⟨S1x1x1x4, .i32⟩
  | .hbm, ⟨29, _⟩ => ⟨S_, .i32⟩
  | .hbm, ⟨30, _⟩ => ⟨S1x1x1x4, .i32⟩
  | .hbm, ⟨31, _⟩ => ⟨S1x1x1x4, .i1⟩
  | .hbm, ⟨32, _⟩ => ⟨S_, .i32⟩
  | .hbm, ⟨33, _⟩ => ⟨S1x1x1x4, .i32⟩
  | .hbm, ⟨34, _⟩ => ⟨S1x1x1x4, .i32⟩
  | .hbm, ⟨35, _⟩ => ⟨S48x16384x10x4, .i32⟩
  | .hbm, ⟨36, _⟩ => ⟨S48x16384x10x4, .i32⟩
  | .hbm, ⟨37, _⟩ => ⟨S_, .i32⟩
  | .hbm, ⟨38, _⟩ => ⟨S48x16384x10x4, .i32⟩
  | .hbm, ⟨39, _⟩ => ⟨S48x16384x10x4, .i1⟩
  | .hbm, ⟨40, _⟩ => ⟨S_, .i32⟩
  | .hbm, ⟨41, _⟩ => ⟨S48x16384x10x4, .i32⟩
  | .hbm, ⟨42, _⟩ => ⟨S48x16384x10x4, .i1⟩
  | .hbm, ⟨43, _⟩ => ⟨S_, .i32⟩
  | .hbm, ⟨44, _⟩ => ⟨S1x1x1x4, .i32⟩
  | .hbm, ⟨45, _⟩ => ⟨S1x1x1x4, .i1⟩
  | .hbm, ⟨46, _⟩ => ⟨S48x16384x10x4, .i1⟩
  | .hbm, ⟨47, _⟩ => ⟨S48x16384x10x4, .i1⟩
  | .hbm, ⟨48, _⟩ => ⟨S48x16384x10x4, .i1⟩
  | .hbm, ⟨49, _⟩ => ⟨S48x16384x10x4, .i32⟩
  | .hbm, ⟨50, _⟩ => ⟨S48x16384x10x4, .i32⟩
  | .hbm, ⟨51, _⟩ => ⟨S48x16384x10x4, .i32⟩
  | .hbm, ⟨52, _⟩ => ⟨S48x16384x10x4, .f32⟩
  | .hbm, ⟨53, _⟩ => ⟨S1x1x1x4, .f32⟩
  | .hbm, ⟨54, _⟩ => ⟨S48x16384x10x4, .f32⟩
  | .hbm, ⟨55, _⟩ => ⟨S48x16384x10x4, .f32⟩
  | .hbm, ⟨56, _⟩ => ⟨S1x1x1x4, .f32⟩
  | .hbm, ⟨57, _⟩ => ⟨S48x16384x10x4, .f32⟩
  | .hbm, ⟨58, _⟩ => ⟨S48x16384x10x4, .f32⟩
  | .hbm, ⟨59, _⟩ => ⟨S48x16384x10x4, .bf16⟩
  | .hbm, ⟨60, _⟩ => ⟨S48x16384x40, .bf16⟩
  | .hbm, ⟨61, _⟩ => ⟨S40x160, .bf16⟩
  | .hbm, ⟨62, _⟩ => ⟨S48x16384x160, .f32⟩
  | .hbm, ⟨63, _⟩ => ⟨S1x1x160, .f32⟩
  | .hbm, ⟨64, _⟩ => ⟨S48x16384x160, .f32⟩
  | .hbm, ⟨65, _⟩ => ⟨S48x16384x160, .f32⟩
  | .hbm, ⟨66, _⟩ => ⟨S1x1x160, .f32⟩
  | .hbm, ⟨67, _⟩ => ⟨S48x16384x160, .f32⟩
  | .hbm, ⟨68, _⟩ => ⟨S48x16384x160, .f32⟩
  | .hbm, ⟨69, _⟩ => ⟨S48x16384x160, .bf16⟩
  | .local _ .vmem, ⟨0, _⟩ => ⟨S40x160, .fp8e4m3⟩
  | .local _ .vmem, ⟨1, _⟩ => ⟨S40x160, .bf16⟩
  | _, _ => ⟨S48x16384x10, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_0 : Ref sig .tc := ⟨.hbm, 24, rfl⟩
abbrev main_call0_v15 : Ref sig .tc := ⟨.hbm, 25, rfl⟩
abbrev main_call0_v16 : Ref sig .tc := ⟨.hbm, 26, rfl⟩
abbrev main_v1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_c_0 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_c_1 : Ref sig .tc := ⟨.hbm, 37, rfl⟩
abbrev main_call1_v7 : Ref sig .tc := ⟨.hbm, 38, rfl⟩
abbrev main_call1_v8 : Ref sig .tc := ⟨.hbm, 39, rfl⟩
abbrev main_call1_c_2 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_v15 : Ref sig .tc := ⟨.hbm, 48, rfl⟩
abbrev main_call1_v16 : Ref sig .tc := ⟨.hbm, 49, rfl⟩
abbrev main_call1_v17 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S40x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Loops.lean ====
/- The counted loop of the kernel body: one trip's stores into the output block as a list of pieces, the pieces of
   the trips before the `k`-th, and the loop's invariant. -/
module

public import proofs.«01_k».proof.Proof.Gen.Kernel.Skeleton
public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The loop over the column tiles of a block, by its invariant -/

/-- One trip's resources: what the region reads (arg2, arg7, arg8, arg9) at its contents, what it
   writes (arg6) at any. -/
abbrev Trip_k0_t1 (c : Dev nD) (arg2 : Memref sig .tc .vmem S10x1x16x8x128 .i32) (arg7 : Memref sig .tc .vmem S8x2x160x128 .bf16) (arg8 : Memref sig .tc .vmem S160x128 .f32) (arg9 : Memref sig .tc .vmem S160x128 .f32) (arg6 : Memref sig .tc .vmem S8x160x2048 .bf16) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (f_arg6 : BufTy.Contents (Elt F) arg6.view.ty) : sProp (MT nD τ sig Unit (Elt F) ℕ (UR sig nD τ) ℕ) :=
  iprop((arg2.view.loc (c : Thread nD τ) ↦[arg2.view.set]{fullShare} X_arg2) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg6.view.loc (c : Thread nD τ) ↦[arg6.view.set]{fullShare} f_arg6))

/-- ONE TRIP of `k0_t1_loop` at a symbolic `k`, run by `sl_exec` (its rectangles' offsets closed
   forms of `k`, their geometry linear arithmetic): the pieces it writes into arg6 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : Fin k0_t1_loop.trips) :
    { L_arg6 : List (View.Piece (Elt F) S8x160x2048 .bf16) // ∀ (E : Set ℕ) (f_arg6 : BufTy.Contents (Elt F) arg6.view.ty),
      Trip_k0_t1 (F := F) c arg2 arg7 arg8 arg9 arg6 X_arg2 X_arg7 X_arg8 X_arg9 f_arg6
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k PUnit.unit)
          (fun _ => Trip_k0_t1 (F := F) c arg2 arg7 arg8 arg9 arg6 X_arg2 X_arg7 X_arg8 X_arg9 (arg6.view.writes (Elt F) f_arg6 L_arg6)) } := by
  have hk : k.val < 4 := Nat.lt_of_lt_of_le k.isLt k0_t1_abs.2.1
  refine ⟨?_, fun E f_arg6 => ?run⟩
  case run =>
    unfold k0_t1_body
    iintro ⟨HR_arg2, HR_arg7, HR_arg8, HR_arg9, HW_arg6⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : Fin k0_t1_loop.trips) : List (View.Piece (Elt F) S8x160x2048 .bf16) :=
  (trip_k0_t1 (F := F) 𝒱 c bd i arg2 harg2 arg3 harg3 arg4 harg4 arg5 harg5 arg6 harg6 arg7 harg7 arg8 harg8 arg9 harg9 X_arg2 X_arg7 X_arg8 X_arg9 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : ℕ) (prev : List (View.Piece (Elt F) S8x160x2048 .bf16)) : List (View.Piece (Elt F) S8x160x2048 .bf16) :=
  if h : k < k0_t1_loop.trips then
    (tripL_k0_t1 (F := F) 𝒱 c bd i arg2 harg2 arg3 harg3 arg4 harg4 arg5 harg5 arg6 harg6 arg7 harg7 arg8 harg8 arg9 harg9 X_arg2 X_arg7 X_arg8 X_arg9 ⟨k, h⟩) ++ prev
  else prev

/-- The pieces of the trips before `k` (last first), per written memref. -/
def pb_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) : ℕ → List (View.Piece (Elt F) S8x160x2048 .bf16)
  | 0 => []
  | k + 1 => pb_k0_t1Step 𝒱 c bd i arg2 harg2 arg3 harg3 arg4 harg4 arg5 harg5 arg6 harg6 arg7 harg7 arg8 harg8 arg9 harg9 X_arg2 X_arg7 X_arg8 X_arg9 k (pb_k0_t1 𝒱 c bd i arg2 harg2 arg3 harg3 arg4 harg4 arg5 harg5 arg6 harg6 arg7 harg7 arg8 harg8 arg9 harg9 X_arg2 X_arg7 X_arg8 X_arg9 k)

theorem pb_k0_t1_succ (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : Fin k0_t1_loop.trips) :
    pb_k0_t1 (F := F) 𝒱 c bd i arg2 harg2 arg3 harg3 arg4 harg4 arg5 harg5 arg6 harg6 arg7 harg7 arg8 harg8 arg9 harg9 X_arg2 X_arg7 X_arg8 X_arg9 (k.val + 1)
      = (tripL_k0_t1 (F := F) 𝒱 c bd i arg2 harg2 arg3 harg3 arg4 harg4 arg5 harg5 arg6 harg6 arg7 harg7 arg8 harg8 arg9 harg9 X_arg2 X_arg7 X_arg8 X_arg9 k) ++ (pb_k0_t1 (F := F) 𝒱 c bd i arg2 harg2 arg3 harg3 arg4 harg4 arg5 harg5 arg6 harg6 arg7 harg7 arg8 harg8 arg9 harg9 X_arg2 X_arg7 X_arg8 X_arg9 k.val) := by
  rw [pb_k0_t1.eq_2]; unfold pb_k0_t1Step; exact dif_pos k.isLt

/-- THE INVARIANT before trip `k`: arg2, arg7, arg8, arg9 read at `X_·`; arg6 holding the pieces of
   the trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (G_arg6 : BufTy.Contents (Elt F) arg6.view.ty) (k : ℕ) (_u : PUnit) : sProp (MT nD τ sig Unit (Elt F) ℕ (UR sig nD τ) ℕ) :=
  iprop((arg2.view.loc (c : Thread nD τ) ↦[arg2.view.set]{fullShare} X_arg2) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 X_arg2 X_arg7 X_arg8 X_arg9 k)⌝))

set_option warn.classDefReducibility false in
/-- THE LOOP BY ITS INVARIANT (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (G_arg6 : BufTy.Contents (Elt F) arg6.view.ty) :
    LoopInvTy_k0_t1 (F := F) Unit ℕ (UR sig nD τ) ℕ 𝒱 c bd E i arg2 harg2 arg3 harg3 arg4 harg4 arg5 harg5 arg6 harg6 arg7 harg7 arg8 harg8 arg9 harg9 where
  inv := inv_k0_t1 (F := F) 𝒱 c bd i arg2 harg2 arg3 harg3 arg4 harg4 arg5 harg5 arg6 harg6 arg7 harg7 arg8 harg8 arg9 harg9 X_arg2 X_arg7 X_arg8 X_arg9 G_arg6
  step k acc := by
    iintro ⟨HR_arg2, HR_arg7, HR_arg8, HR_arg9, ⟨%f_arg6, HW_arg6, %h_arg6⟩⟩
    iapply (wp_wand_r Idealize.ShloMosaic.frame (wpE (defs₀ (F := F)) 𝒱 (c : Thread nD τ) bd) E)
    isplitl [HR_arg2 HR_arg7 HR_arg8 HR_arg9 HW_arg6]
    · iapply ((trip_k0_t1 (F := F) 𝒱 c bd i arg2 harg2 arg3 harg3 arg4 harg4 arg5 harg5 arg6 harg6 arg7 harg7 arg8 harg8 arg9 harg9 X_arg2 X_arg7 X_arg8 X_arg9 k).2 E f_arg6)
      isplitl [HR_arg2]; · iexact HR_arg2
      isplitl [HR_arg7]; · iexact HR_arg7
      isplitl [HR_arg8]; · iexact HR_arg8
      isplitl [HR_arg9]; · iexact HR_arg9
      iexact HW_arg6
    · iintro %_ ⟨HR_arg2, HR_arg7, HR_arg8, HR_arg9, HW_arg6⟩
      isplitl [HR_arg2]; · iexact HR_arg2
      isplitl [HR_arg7]; · iexact HR_arg7
      isplitl [HR_arg8]; · iexact HR_arg8
      isplitl [HR_arg9]; · iexact HR_arg9
      rw [pb_k0_t1_succ]
      iexists _; isplitl [HW_arg6]; · iexact HW_arg6
      ipureintro; rw [h_arg6, ← View.writes_append]

end Cert.Kernel.Hand

end
-- ==== Proof.Kernel.Runs.lean ====
/- What the runs of the kernel body share: the condition of its branch in closed form over the grid points, the staging and
   scratch memrefs under short names, and the scratch as part of the region's invariant. -/
module

public import proofs.«01_k».proof.Proof.Gen.Kernel.Launch
public import proofs.«01_k».proof.Proof.Gen.Kernel.Skeleton
public import proofs.«01_k».proof.Proof.Gen.Kernel.Frame
public import proofs.«01_k».proof.Proof.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 48 = 0)

/-! ## The kernel body on any staging memrefs: a subtype the run finds -/

/-- One staging buffer of output window 4, through which its contents are stated (`View.read_writes_of_cover`: the
    choice does not matter). -/
abbrev VO0_4 : View sig .tc .vmem S8x160x2048 .bf16 := (Memref.whole cc0_stg4_0 : Memref sig .tc .vmem S8x160x2048 .bf16).view
/-- Each window's current staging memref at point `t`, spelled as the pipeline passes it (`bodyAt0`), and its wholeness. -/
abbrev ms0_0 (t : Fin cfg0.N) : Memref sig .tc .vmem S10x1x16x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x160 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x160 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x160x2048 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x2x160x128 .bf16 := Memref.whole cc0_scratch0
abbrev scM0_1 : Memref sig .tc .vmem S160x128 .f32 := Memref.whole cc0_scratch1
abbrev scM0_2 : Memref sig .tc .vmem S160x128 .f32 := Memref.whole cc0_scratch2
/-- The scratch `arg7` the kernel carries between points, as a view: what it holds is stated through it. -/
abbrev VS0_0 : View sig .tc .vmem S8x2x160x128 .bf16 := scM0_0.view
/-- The scratch `arg8` the kernel carries between points, as a view: what it holds is stated through it. -/
abbrev VS0_1 : View sig .tc .vmem S160x128 .f32 := scM0_1.view
/-- The scratch `arg9` the kernel carries between points, as a view: what it holds is stated through it. -/
abbrev VS0_2 : View sig .tc .vmem S160x128 .f32 := scM0_2.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.Kernel.RunA.lean ====
/- The body at the first grid point: the weights are expanded into the scratch, then the block is decoded. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) :
    Σ' (L4 : List (View.Piece (Elt F) S8x160x2048 .bf16)), Σ' (LS0 : List (View.Piece (Elt F) S8x2x160x128 .bf16)), Σ' (LS1 : List (View.Piece (Elt F) S160x128 .f32)), { LS2 : List (View.Piece (Elt F) S160x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_fsq_decode i arg2 harg2 arg3 harg3 arg4 harg4 arg5 harg5 arg6 harg6 arg7 harg7 arg8 harg8 arg9 harg9) K } := by
  refine ⟨?_, ?_, ?_, ?_, fun E K => ?run⟩
  case run =>
    simp only [cc0_fsq_decode_eq_skeleton]; unfold cc0_fsq_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.Kernel.RunB.lean ====
/- The body at every other grid point: the scratch is as the first point left it, and the block is decoded. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 47: 47 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) :
    Σ' (L4 : List (View.Piece (Elt F) S8x160x2048 .bf16)), Σ' (LS0 : List (View.Piece (Elt F) S8x2x160x128 .bf16)), Σ' (LS1 : List (View.Piece (Elt F) S160x128 .f32)), { LS2 : List (View.Piece (Elt F) S160x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_fsq_decode i arg2 harg2 arg3 harg3 arg4 harg4 arg5 harg5 arg6 harg6 arg7 harg7 arg8 harg8 arg9 harg9) K } := by
  refine ⟨?_, [], [], [], fun E K => ?run⟩
  case run =>
    simp only [cc0_fsq_decode_eq_skeleton]; unfold cc0_fsq_decode_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.Kernel.Frame.lean ====
/- The frame of the program: what its output and its carried scratch hold point by point, the proof data of the pipeline,
   the body obligation, the run, and the arguments left as they were. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (128 stores of `S1x160x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S8x160x2048.Idx) :
    ∃ pc ∈ (kernelRun0_A c i arg2 harg2 arg3 harg3 arg4 harg4 arg5 harg5 arg6 harg6 arg7 harg7 arg8 harg8 arg9 harg9 hc0 x0 x1 x2 x3).1, y ∈ pc.1.set :=
  View.cover_of_tiledL (kernelRun0_A c i arg2 harg2 arg3 harg3 arg4 harg4 arg5 harg5 arg6 harg6 arg7 harg7 arg8 harg8 arg9 harg9 hc0 x0 x1 x2 x3).1 S1x160x128.size (by sl_kernel_rfl) y

/-- What case A leaves in output 4's staging buffer: its pieces read back over junk. -/
def out0_A_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S8x160x2048 .bf16 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3).1)

/-- Case A's pieces for scratch `arg7`, which the kernel carries between points, cover it: 16 pieces of `S1x1x160x128` tiling it (Lib/Ring.lean `Piece.tiledL`). -/
theorem scover0_A_0 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S8x2x160x128.Idx) :
    ∃ pc ∈ (kernelRun0_A c i arg2 harg2 arg3 harg3 arg4 harg4 arg5 harg5 arg6 harg6 arg7 harg7 arg8 harg8 arg9 harg9 hc0 x0 x1 x2 x3).2.1, y ∈ pc.1.set :=
  View.cover_of_tiledL (kernelRun0_A c i arg2 harg2 arg3 harg3 arg4 harg4 arg5 harg5 arg6 harg6 arg7 harg7 arg8 harg8 arg9 harg9 hc0 x0 x1 x2 x3).2.1 S1x1x160x128.size (by sl_kernel_rfl) y

/-- What case A leaves in scratch `arg7`: its pieces read back over junk. -/
def sout0_A_0 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S8x2x160x128 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3).2.1)

/-- Case A's pieces for scratch `arg8`, which the kernel carries between points, cover it: 1 piece of `S160x128` tiling it (Lib/Ring.lean `Piece.tiledL`). -/
theorem scover0_A_1 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S160x128.Idx) :
    ∃ pc ∈ (kernelRun0_A c i arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg2 harg2 arg3 harg3 arg4 harg4 arg5 harg5 arg6 harg6 arg7 harg7 arg8 harg8 arg9 harg9 hc0 x0 x1 x2 x3).2.2.1 S160x128.size (by sl_kernel_rfl) y

/-- What case A leaves in scratch `arg8`: its pieces read back over junk. -/
def sout0_A_1 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S160x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 x0 x1 x2 x3).2.2.1)

/-- Case A's pieces for scratch `arg9`, which the kernel carries between points, cover it: 1 piece of `S160x128` tiling it (Lib/Ring.lean `Piece.tiledL`). -/
theorem scover0_A_2 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S160x128.Idx) :
    ∃ pc ∈ (kernelRun0_A c i arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 x0 x1 x2 x3).2.2.2.1 S160x128.size (by sl_kernel_rfl) y

/-- What case A leaves in scratch `arg9`: its pieces read back over junk. -/
def sout0_A_2 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S160x128 .f32 :=
  VS0_2.read (Elt F) (VS0_2.writes (Elt F) VS0_2.junk (kernelRun0_A c i arg2 harg2 arg3 harg3 arg4 harg4 arg5 harg5 arg6 harg6 arg7 harg7 arg8 harg8 arg9 harg9 hc0 x0 x1 x2 x3).2.2.2.1)

/-- Case B's pieces for output 4 tile its block (128 stores of `S1x160x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) (y : S8x160x2048.Idx) :
    ∃ pc ∈ (kernelRun0_B c i arg2 harg2 arg3 harg3 arg4 harg4 arg5 harg5 arg6 harg6 arg7 harg7 arg8 harg8 arg9 harg9 hc0 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 hc0 x0 x1 x2 x3 xs0 xs1 xs2).1 S1x160x128.size (by sl_kernel_rfl) y

/-- What case B leaves in output 4's staging buffer: its pieces read back over junk. -/
def out0_B_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S8x160x2048 .bf16 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xs0 xs1 xs2).1)

/-- Case B stores nothing into scratch `arg7`: it holds what the point before left. -/
def sout0_B_0 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S8x2x160x128 .bf16 := xs0

/-- Case B stores nothing into scratch `arg8`: it holds what the point before left. -/
def sout0_B_1 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S160x128 .f32 := xs1

/-- Case B stores nothing into scratch `arg9`: it holds what the point before left. -/
def sout0_B_2 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S160x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x160x2048 .bf16 × Vec F S8x2x160x128 .bf16 × Vec F S160x128 .f32 × Vec F S160x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 48 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 48 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 48 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases hz : t.val = 0
    · rw [PhiS_castSucc m c t, PhiS_zero m c _ _ hz, PhiA0_eq]
      rw [outsAt0_A m c t h0]
      unfold out0_A_4 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _)
    · exfalso; have hN : t.val < 48 := lt_of_lt_of_eq t.isLt (show cfg0.N = 48 from N_0); omega
  · by_cases hz : t.val = 0
    · exfalso; have hN : t.val < 48 := lt_of_lt_of_eq t.isLt (show cfg0.N = 48 from N_0); omega
    · rw [PhiS_castSucc m c t, PhiS_pos m c _ _ hz]
      rw [outsAt0_B m c t h0]
      unfold out0_B_4 sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdeal.Loops.lean ====
/- The counted loop of the kernel body: one trip's stores into the output block as a list of pieces, the pieces of
   the trips before the `k`-th, and the loop's invariant. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The loop over the column tiles of a block, by its invariant -/

/-- One trip's resources: what the region reads (arg2, arg7, arg8, arg9) at its contents, what it
   writes (arg6) at any. -/
abbrev Trip_k0_t1 (c : Dev nD) (arg2 : Memref sig .tc .vmem S10x1x16x8x128 .i32) (arg7 : Memref sig .tc .vmem S8x2x160x128 .bf16) (arg8 : Memref sig .tc .vmem S160x128 .f32) (arg9 : Memref sig .tc .vmem S160x128 .f32) (arg6 : Memref sig .tc .vmem S8x160x2048 .bf16) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (f_arg6 : BufTy.Contents (Elt F) arg6.view.ty) : sProp (MT nD τ sig Unit (Elt F) ℕ (UR sig nD τ) ℕ) :=
  iprop((arg2.view.loc (c : Thread nD τ) ↦[arg2.view.set]{fullShare} X_arg2) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg6.view.loc (c : Thread nD τ) ↦[arg6.view.set]{fullShare} f_arg6))

/-- ONE TRIP of `k0_t1_loop` at a symbolic `k`, run by `sl_exec` (its rectangles' offsets closed
   forms of `k`, their geometry linear arithmetic): the pieces it writes into arg6 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : Fin k0_t1_loop.trips) :
    { L_arg6 : List (View.Piece (Elt F) S8x160x2048 .bf16) // ∀ (E : Set ℕ) (f_arg6 : BufTy.Contents (Elt F) arg6.view.ty),
      Trip_k0_t1 (F := F) c arg2 arg7 arg8 arg9 arg6 X_arg2 X_arg7 X_arg8 X_arg9 f_arg6
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k PUnit.unit)
          (fun _ => Trip_k0_t1 (F := F) c arg2 arg7 arg8 arg9 arg6 X_arg2 X_arg7 X_arg8 X_arg9 (arg6.view.writes (Elt F) f_arg6 L_arg6)) } := by
  have hk : k.val < 4 := Nat.lt_of_lt_of_le k.isLt k0_t1_abs.2.1
  refine ⟨?_, fun E f_arg6 => ?run⟩
  case run =>
    unfold k0_t1_body
    iintro ⟨HR_arg2, HR_arg7, HR_arg8, HR_arg9, HW_arg6⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : Fin k0_t1_loop.trips) : List (View.Piece (Elt F) S8x160x2048 .bf16) :=
  (trip_k0_t1 (F := F) 𝒱 c bd i arg2 harg2 arg3 harg3 arg4 harg4 arg5 harg5 arg6 harg6 arg7 harg7 arg8 harg8 arg9 harg9 X_arg2 X_arg7 X_arg8 X_arg9 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : ℕ) (prev : List (View.Piece (Elt F) S8x160x2048 .bf16)) : List (View.Piece (Elt F) S8x160x2048 .bf16) :=
  if h : k < k0_t1_loop.trips then
    (tripL_k0_t1 (F := F) 𝒱 c bd i arg2 harg2 arg3 harg3 arg4 harg4 arg5 harg5 arg6 harg6 arg7 harg7 arg8 harg8 arg9 harg9 X_arg2 X_arg7 X_arg8 X_arg9 ⟨k, h⟩) ++ prev
  else prev

/-- The pieces of the trips before `k` (last first), per written memref. -/
def pb_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) : ℕ → List (View.Piece (Elt F) S8x160x2048 .bf16)
  | 0 => []
  | k + 1 => pb_k0_t1Step 𝒱 c bd i arg2 harg2 arg3 harg3 arg4 harg4 arg5 harg5 arg6 harg6 arg7 harg7 arg8 harg8 arg9 harg9 X_arg2 X_arg7 X_arg8 X_arg9 k (pb_k0_t1 𝒱 c bd i arg2 harg2 arg3 harg3 arg4 harg4 arg5 harg5 arg6 harg6 arg7 harg7 arg8 harg8 arg9 harg9 X_arg2 X_arg7 X_arg8 X_arg9 k)

theorem pb_k0_t1_succ (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (k : Fin k0_t1_loop.trips) :
    pb_k0_t1 (F := F) 𝒱 c bd i arg2 harg2 arg3 harg3 arg4 harg4 arg5 harg5 arg6 harg6 arg7 harg7 arg8 harg8 arg9 harg9 X_arg2 X_arg7 X_arg8 X_arg9 (k.val + 1)
      = (tripL_k0_t1 (F := F) 𝒱 c bd i arg2 harg2 arg3 harg3 arg4 harg4 arg5 harg5 arg6 harg6 arg7 harg7 arg8 harg8 arg9 harg9 X_arg2 X_arg7 X_arg8 X_arg9 k) ++ (pb_k0_t1 (F := F) 𝒱 c bd i arg2 harg2 arg3 harg3 arg4 harg4 arg5 harg5 arg6 harg6 arg7 harg7 arg8 harg8 arg9 harg9 X_arg2 X_arg7 X_arg8 X_arg9 k.val) := by
  rw [pb_k0_t1.eq_2]; unfold pb_k0_t1Step; exact dif_pos k.isLt

/-- THE INVARIANT before trip `k`: arg2, arg7, arg8, arg9 read at `X_·`; arg6 holding the pieces of
   the trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (G_arg6 : BufTy.Contents (Elt F) arg6.view.ty) (k : ℕ) (_u : PUnit) : sProp (MT nD τ sig Unit (Elt F) ℕ (UR sig nD τ) ℕ) :=
  iprop((arg2.view.loc (c : Thread nD τ) ↦[arg2.view.set]{fullShare} X_arg2) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 X_arg2 X_arg7 X_arg8 X_arg9 k)⌝))

set_option warn.classDefReducibility false in
/-- THE LOOP BY ITS INVARIANT (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (X_arg2 : BufTy.Contents (Elt F) arg2.view.ty) (X_arg7 : BufTy.Contents (Elt F) arg7.view.ty) (X_arg8 : BufTy.Contents (Elt F) arg8.view.ty) (X_arg9 : BufTy.Contents (Elt F) arg9.view.ty) (G_arg6 : BufTy.Contents (Elt F) arg6.view.ty) :
    LoopInvTy_k0_t1 (F := F) Unit ℕ (UR sig nD τ) ℕ 𝒱 c bd E i arg2 harg2 arg3 harg3 arg4 harg4 arg5 harg5 arg6 harg6 arg7 harg7 arg8 harg8 arg9 harg9 where
  inv := inv_k0_t1 (F := F) 𝒱 c bd i arg2 harg2 arg3 harg3 arg4 harg4 arg5 harg5 arg6 harg6 arg7 harg7 arg8 harg8 arg9 harg9 X_arg2 X_arg7 X_arg8 X_arg9 G_arg6
  step k acc := by
    iintro ⟨HR_arg2, HR_arg7, HR_arg8, HR_arg9, ⟨%f_arg6, HW_arg6, %h_arg6⟩⟩
    iapply (wp_wand_r Idealize.ShloMosaic.frame (wpE (defs₀ (F := F)) 𝒱 (c : Thread nD τ) bd) E)
    isplitl [HR_arg2 HR_arg7 HR_arg8 HR_arg9 HW_arg6]
    · iapply ((trip_k0_t1 (F := F) 𝒱 c bd i arg2 harg2 arg3 harg3 arg4 harg4 arg5 harg5 arg6 harg6 arg7 harg7 arg8 harg8 arg9 harg9 X_arg2 X_arg7 X_arg8 X_arg9 k).2 E f_arg6)
      isplitl [HR_arg2]; · iexact HR_arg2
      isplitl [HR_arg7]; · iexact HR_arg7
      isplitl [HR_arg8]; · iexact HR_arg8
      isplitl [HR_arg9]; · iexact HR_arg9
      iexact HW_arg6
    · iintro %_ ⟨HR_arg2, HR_arg7, HR_arg8, HR_arg9, HW_arg6⟩
      isplitl [HR_arg2]; · iexact HR_arg2
      isplitl [HR_arg7]; · iexact HR_arg7
      isplitl [HR_arg8]; · iexact HR_arg8
      isplitl [HR_arg9]; · iexact HR_arg9
      rw [pb_k0_t1_succ]
      iexists _; isplitl [HW_arg6]; · iexact HW_arg6
      ipureintro; rw [h_arg6, ← View.writes_append]

end Cert.KernelIdeal.Hand

end
-- ==== Proof.KernelIdeal.Runs.lean ====
/- What the runs of the kernel body share: the condition of its branch in closed form over the grid points, the staging and
   scratch memrefs under short names, and the scratch as part of the region's invariant. -/
module

public import proofs.«01_k».proof.Proof.Gen.KernelIdeal.Launch
public import proofs.«01_k».proof.Proof.Gen.KernelIdeal.Skeleton
public import proofs.«01_k».proof.Proof.Gen.KernelIdeal.Frame
public import proofs.«01_k».proof.Proof.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 48 = 0)

/-! ## The kernel body on any staging memrefs: a subtype the run finds -/

/-- One staging buffer of output window 4, through which its contents are stated (`View.read_writes_of_cover`: the
    choice does not matter). -/
abbrev VO0_4 : View sig .tc .vmem S8x160x2048 .bf16 := (Memref.whole cc0_stg4_0 : Memref sig .tc .vmem S8x160x2048 .bf16).view
/-- Each window's current staging memref at point `t`, spelled as the pipeline passes it (`bodyAt0`), and its wholeness. -/
abbrev ms0_0 (t : Fin cfg0.N) : Memref sig .tc .vmem S10x1x16x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x160 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x160 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x160x2048 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x2x160x128 .bf16 := Memref.whole cc0_scratch0
abbrev scM0_1 : Memref sig .tc .vmem S160x128 .f32 := Memref.whole cc0_scratch1
abbrev scM0_2 : Memref sig .tc .vmem S160x128 .f32 := Memref.whole cc0_scratch2
/-- The scratch `arg7` the kernel carries between points, as a view: what it holds is stated through it. -/
abbrev VS0_0 : View sig .tc .vmem S8x2x160x128 .bf16 := scM0_0.view
/-- The scratch `arg8` the kernel carries between points, as a view: what it holds is stated through it. -/
abbrev VS0_1 : View sig .tc .vmem S160x128 .f32 := scM0_1.view
/-- The scratch `arg9` the kernel carries between points, as a view: what it holds is stated through it. -/
abbrev VS0_2 : View sig .tc .vmem S160x128 .f32 := scM0_2.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelIdeal.RunA.lean ====
/- The body at the first grid point: the weights are expanded into the scratch, then the block is decoded. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) :
    Σ' (L4 : List (View.Piece (Elt F) S8x160x2048 .bf16)), Σ' (LS0 : List (View.Piece (Elt F) S8x2x160x128 .bf16)), Σ' (LS1 : List (View.Piece (Elt F) S160x128 .f32)), { LS2 : List (View.Piece (Elt F) S160x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_fsq_decode i arg2 harg2 arg3 harg3 arg4 harg4 arg5 harg5 arg6 harg6 arg7 harg7 arg8 harg8 arg9 harg9) K } := by
  refine ⟨?_, ?_, ?_, ?_, fun E K => ?run⟩
  case run =>
    simp only [cc0_fsq_decode_eq_skeleton]; unfold cc0_fsq_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KernelIdeal.RunB.lean ====
/- The body at every other grid point: the scratch is as the first point left it, and the block is decoded. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 47: 47 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) :
    Σ' (L4 : List (View.Piece (Elt F) S8x160x2048 .bf16)), Σ' (LS0 : List (View.Piece (Elt F) S8x2x160x128 .bf16)), Σ' (LS1 : List (View.Piece (Elt F) S160x128 .f32)), { LS2 : List (View.Piece (Elt F) S160x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_fsq_decode i arg2 harg2 arg3 harg3 arg4 harg4 arg5 harg5 arg6 harg6 arg7 harg7 arg8 harg8 arg9 harg9) K } := by
  refine ⟨?_, [], [], [], fun E K => ?run⟩
  case run =>
    simp only [cc0_fsq_decode_eq_skeleton]; unfold cc0_fsq_decode_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KernelIdeal.Frame.lean ====
/- The frame of the program: what its output and its carried scratch hold point by point, the proof data of the pipeline,
   the body obligation, the run, and the arguments left as they were. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (128 stores of `S1x160x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S8x160x2048.Idx) :
    ∃ pc ∈ (kernelRun0_A c i arg2 harg2 arg3 harg3 arg4 harg4 arg5 harg5 arg6 harg6 arg7 harg7 arg8 harg8 arg9 harg9 hc0 x0 x1 x2 x3).1, y ∈ pc.1.set :=
  View.cover_of_tiledL (kernelRun0_A c i arg2 harg2 arg3 harg3 arg4 harg4 arg5 harg5 arg6 harg6 arg7 harg7 arg8 harg8 arg9 harg9 hc0 x0 x1 x2 x3).1 S1x160x128.size (by sl_kernel_rfl) y

/-- What case A leaves in output 4's staging buffer: its pieces read back over junk. -/
def out0_A_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S8x160x2048 .bf16 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3).1)

/-- Case A's pieces for scratch `arg7`, which the kernel carries between points, cover it: 16 pieces of `S1x1x160x128` tiling it (Lib/Ring.lean `Piece.tiledL`). -/
theorem scover0_A_0 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S8x2x160x128.Idx) :
    ∃ pc ∈ (kernelRun0_A c i arg2 harg2 arg3 harg3 arg4 harg4 arg5 harg5 arg6 harg6 arg7 harg7 arg8 harg8 arg9 harg9 hc0 x0 x1 x2 x3).2.1, y ∈ pc.1.set :=
  View.cover_of_tiledL (kernelRun0_A c i arg2 harg2 arg3 harg3 arg4 harg4 arg5 harg5 arg6 harg6 arg7 harg7 arg8 harg8 arg9 harg9 hc0 x0 x1 x2 x3).2.1 S1x1x160x128.size (by sl_kernel_rfl) y

/-- What case A leaves in scratch `arg7`: its pieces read back over junk. -/
def sout0_A_0 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S8x2x160x128 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3).2.1)

/-- Case A's pieces for scratch `arg8`, which the kernel carries between points, cover it: 1 piece of `S160x128` tiling it (Lib/Ring.lean `Piece.tiledL`). -/
theorem scover0_A_1 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S160x128.Idx) :
    ∃ pc ∈ (kernelRun0_A c i arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg2 harg2 arg3 harg3 arg4 harg4 arg5 harg5 arg6 harg6 arg7 harg7 arg8 harg8 arg9 harg9 hc0 x0 x1 x2 x3).2.2.1 S160x128.size (by sl_kernel_rfl) y

/-- What case A leaves in scratch `arg8`: its pieces read back over junk. -/
def sout0_A_1 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S160x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 x0 x1 x2 x3).2.2.1)

/-- Case A's pieces for scratch `arg9`, which the kernel carries between points, cover it: 1 piece of `S160x128` tiling it (Lib/Ring.lean `Piece.tiledL`). -/
theorem scover0_A_2 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) (y : S160x128.Idx) :
    ∃ pc ∈ (kernelRun0_A c i arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 x0 x1 x2 x3).2.2.2.1 S160x128.size (by sl_kernel_rfl) y

/-- What case A leaves in scratch `arg9`: its pieces read back over junk. -/
def sout0_A_2 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : cond0_0 i)
    (x0 : Vec F S10x1x16x8x128 .i32) (x1 : Vec F S40x160 .fp8e4m3) (x2 : Vec F S1x160 .f32) (x3 : Vec F S1x160 .f32) : Vec F S160x128 .f32 :=
  VS0_2.read (Elt F) (VS0_2.writes (Elt F) VS0_2.junk (kernelRun0_A c i arg2 harg2 arg3 harg3 arg4 harg4 arg5 harg5 arg6 harg6 arg7 harg7 arg8 harg8 arg9 harg9 hc0 x0 x1 x2 x3).2.2.2.1)

/-- Case B's pieces for output 4 tile its block (128 stores of `S1x160x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) (y : S8x160x2048.Idx) :
    ∃ pc ∈ (kernelRun0_B c i arg2 harg2 arg3 harg3 arg4 harg4 arg5 harg5 arg6 harg6 arg7 harg7 arg8 harg8 arg9 harg9 hc0 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 hc0 x0 x1 x2 x3 xs0 xs1 xs2).1 S1x160x128.size (by sl_kernel_rfl) y

/-- What case B leaves in output 4's staging buffer: its pieces read back over junk. -/
def out0_B_4 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S8x160x2048 .bf16 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xs0 xs1 xs2).1)

/-- Case B stores nothing into scratch `arg7`: it holds what the point before left. -/
def sout0_B_0 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S8x2x160x128 .bf16 := xs0

/-- Case B stores nothing into scratch `arg8`: it holds what the point before left. -/
def sout0_B_1 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S160x128 .f32 := xs1

/-- Case B stores nothing into scratch `arg9`: it holds what the point before left. -/
def sout0_B_2 (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole) (hc0 : ¬cond0_0 i)
    (x0 : Vec F S10x1x16x8x128 .i32) (x1 : Vec F S40x160 .fp8e4m3) (x2 : Vec F S1x160 .f32) (x3 : Vec F S1x160 .f32) (xs0 : Vec F S8x2x160x128 .bf16) (xs1 : Vec F S160x128 .f32) (xs2 : Vec F S160x128 .f32) : Vec F S160x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x160x2048 .bf16 × Vec F S8x2x160x128 .bf16 × Vec F S160x128 .f32 × Vec F S160x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 48 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 48 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 48 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases hz : t.val = 0
    · rw [PhiS_castSucc m c t, PhiS_zero m c _ _ hz, PhiA0_eq]
      rw [outsAt0_A m c t h0]
      unfold out0_A_4 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _)
    · exfalso; have hN : t.val < 48 := lt_of_lt_of_eq t.isLt (show cfg0.N = 48 from N_0); omega
  · by_cases hz : t.val = 0
    · exfalso; have hN : t.val < 48 := lt_of_lt_of_eq t.isLt (show cfg0.N = 48 from N_0); omega
    · rw [PhiS_castSucc m c t, PhiS_pos m c _ _ hz]
      rw [outsAt0_B m c t h0]
      unfold out0_B_4 sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelIdeal.Digits.lean ====
module

public import Idealize.ShloMosaic.Lib.Pipeline.ValueKit
public import Idealize.ShloMosaic.Lib.BitcastPair
@[expose] public section
set_option maxRecDepth 16384
noncomputable section
namespace Cert.KernelIdeal.Hand
open Idealize.ShloMosaic hiding ix2 ix3 ix4 ix5
open Idealize.ShloMosaic.ValueIdx

/-! # The packed digit words

Two codes below 1000 sit in the halves of one 32-bit word. The kernel computes the mixed-radix digits of both at once and
assembles, in each half, the bits of a bf16 number from which one subtraction gives the normalised digit. -/

/-- Two codes in one word. -/
def pairW (lo hi : BitVec 32) : BitVec 32 := IntOp.ori lo (IntOp.shli .vector hi 16#32)
/-- Both codes divided by 8. -/
def quoW (w : BitVec 32) : BitVec 32 := IntOp.andi (IntOp.shrsi .vector w 3#32) 8323199#32
/-- Both values divided by 5, at values below 125. -/
def fifthW (q : BitVec 32) : BitVec 32 := IntOp.andi (IntOp.shrsi .vector (IntOp.muli q 205#32) 10#32) 2031647#32
/-- Both values divided by 5, at values below 25. -/
def lastW (t : BitVec 32) : BitVec 32 := IntOp.andi (IntOp.shrsi .vector (IntOp.muli t 13#32) 6#32) 458759#32
/-- The bits made of the first digit. -/
def bits0 (w : BitVec 32) : BitVec 32 := IntOp.ori (IntOp.shli .vector (IntOp.andi w 458759#32) 4#32) 1073758208#32
/-- The bits made of a middle digit, from the running quotient `q` and the next one `t`. -/
def bitsM (q t : BitVec 32) : BitVec 32 := IntOp.subi (IntOp.addi (IntOp.shli .vector q 4#32) 1082146944#32) (IntOp.muli t 80#32)
/-- The bits made of the last digit. -/
def bitsL (u : BitVec 32) : BitVec 32 := IntOp.addi (IntOp.shli .vector u 4#32) 1082146944#32

/-- The word of digit `d`'s bits, for the pair of codes `w`. -/
def digitW (d : Fin 4) (w : BitVec 32) : BitVec 32 :=
  match d with
  | 0 => bits0 w
  | 1 => bitsM (quoW w) (fifthW (quoW w))
  | 2 => bitsM (fifthW (quoW w)) (lastW (fifthW (quoW w)))
  | 3 => bitsL (lastW (fifthW (quoW w)))

/-- The bits of the number subtracted from digit `d`'s. -/
def shiftBits (d : Fin 4) : BitVec 16 := match d with | 0 => 0x4040#16 | 1 => 0x40A0#16 | 2 => 0x40A0#16 | 3 => 0x40A0#16

/-- The normalised digit `d` that the kernel reads out of half `o` of a packed word. -/
def digitE (d : Fin 4) (o : ℕ) (w : BitVec 32) : EReal :=
  Ideal.ofBits .bf16 ((digitW d w).extractLsb' (16 * o) 16) - Ideal.ofBits .bf16 (shiftBits d)

/-- The product of the radices below digit `d`. -/
def strideN (d : Fin 4) : ℕ := match d with | 0 => 1 | 1 => 8 | 2 => 40 | 3 => 200
/-- The radix of digit `d`. -/
def levelN (d : Fin 4) : ℕ := match d with | 0 => 8 | 1 => 5 | 2 => 5 | 3 => 5
/-- Digit `d` of the code `n`. -/
def digitN (d : Fin 4) (n : ℕ) : ℕ := n / strideN d % levelN d
/-- Half the radix of digit `d`, rounded down. -/
def halfN (d : Fin 4) : ℕ := match d with | 0 => 4 | 1 => 2 | 2 => 2 | 3 => 2
/-- The normalised digit `d` of the code `n`, a real number. -/
def normDigit (d : Fin 4) (n : ℕ) : ℝ := ((digitN d n : ℝ) - (halfN d : ℝ)) / (halfN d : ℝ)

theorem and_fields (x m : BitVec 32) (k : ℕ) (hk : k ≤ 16) (hm : m.toNat = 65537 * (2 ^ k - 1)) :
    (x &&& m).toNat = x.toNat % 2 ^ k + 65536 * (x.toNat / 65536 % 2 ^ k) := by
  have hk2 : 2 ^ k ≤ 65536 := by calc 2 ^ k ≤ 2 ^ 16 := Nat.pow_le_pow_right (by decide) hk
                                  _ = 65536 := by norm_num
  have hpos : 1 ≤ 2 ^ k := Nat.one_le_two_pow
  rw [BitVec.toNat_and, hm]
  have e1 : 65537 * (2 ^ k - 1) = 2 ^ 16 * (2 ^ k - 1) + (2 ^ k - 1) := by omega
  have e2 : x.toNat = 2 ^ 16 * (x.toNat / 65536) + x.toNat % 65536 := by omega
  have lt1 : 2 ^ k - 1 < 2 ^ 16 := by omega
  have lt2 : x.toNat % 65536 < 2 ^ 16 := by omega
  have key : x.toNat &&& (2 ^ 16 * (2 ^ k - 1) + (2 ^ k - 1))
      = 2 ^ 16 * (x.toNat / 65536 % 2 ^ k) + x.toNat % 65536 % 2 ^ k := by
    apply Nat.eq_of_testBit_eq
    intro i
    have lt3 : x.toNat % 65536 % 2 ^ k < 2 ^ 16 := lt_of_le_of_lt (Nat.mod_le _ _) lt2
    rw [Nat.testBit_and, Nat.testBit_two_pow_mul_add _ lt1, Nat.testBit_two_pow_mul_add _ lt3]
    by_cases hi : i < 16
    · simp only [hi, if_true, Nat.testBit_two_pow_sub_one, Nat.testBit_mod_two_pow]
      have : (x.toNat % 65536).testBit i = x.toNat.testBit i := by
        rw [show (65536 : ℕ) = 2 ^ 16 by norm_num, Nat.testBit_mod_two_pow]; simp [hi]
      rw [this, Bool.and_comm]
    · simp only [hi, if_false, Nat.testBit_two_pow_sub_one, Nat.testBit_mod_two_pow]
      have : (x.toNat / 65536).testBit (i - 16) = x.toNat.testBit i := by
        rw [show (65536 : ℕ) = 2 ^ 16 by norm_num, Nat.testBit_div_two_pow]; congr 1; omega
      rw [this, Bool.and_comm]
  rw [e1, key]
  have hd : 2 ^ k ∣ 65536 := by
    have : (65536 : ℕ) = 2 ^ 16 := by norm_num
    rw [this]; exact Nat.pow_dvd_pow 2 hk
  rw [Nat.mod_mod_of_dvd _ hd]; omega

theorem shrsi_toNat (x : BitVec 32) (hx : x.toNat < 2 ^ 31) (s : ℕ) (y : BitVec 32) (hs : s < 32) (hy : y.toNat = s) :
    (IntOp.shrsi .vector x y).toNat = x.toNat / 2 ^ s := by
  unfold IntOp.shrsi
  rw [if_pos (by omega)]
  show (x.sshiftRight y.toNat).toNat = _
  rw [hy, BitVec.sshiftRight_eq_of_msb_false (by rw [BitVec.msb_eq_false_iff_two_mul_lt]; omega), BitVec.toNat_ushiftRight,
    Nat.shiftRight_eq_div_pow]

theorem shli_toNat (x : BitVec 32) (s : ℕ) (y : BitVec 32) (hs : s < 32) (hy : y.toNat = s) (hx : x.toNat * 2 ^ s < 2 ^ 32) :
    (IntOp.shli .vector x y).toNat = x.toNat * 2 ^ s := by
  unfold IntOp.shli
  rw [if_pos (by omega)]
  show (x <<< y.toNat).toNat = _
  rw [hy, BitVec.toNat_shiftLeft, Nat.shiftLeft_eq, Nat.mod_eq_of_lt hx]

theorem pairW_toNat (a b : BitVec 32) (ha : a.toNat < 1000) (hb : b.toNat < 1000) :
    (pairW a b).toNat = a.toNat + 65536 * b.toNat := by
  have h2 : (IntOp.shli .vector b 16#32).toNat = b.toNat * 2 ^ 16 := shli_toNat b 16 _ (by decide) rfl (by omega)
  show (a ||| IntOp.shli .vector b 16#32).toNat = _
  rw [BitVec.toNat_or, h2, Nat.or_comm, Nat.mul_comm b.toNat, ← Nat.two_pow_add_eq_or_of_lt (by omega)]
  omega

theorem quoW_toNat (w : BitVec 32) (a b : ℕ) (ha : a < 1000) (hb : b < 1000) (hw : w.toNat = a + 65536 * b) :
    (quoW w).toNat = a / 8 + 65536 * (b / 8) := by
  show (IntOp.shrsi .vector w 3#32 &&& 8323199#32).toNat = _
  rw [and_fields _ _ 7 (by decide) (by decide), shrsi_toNat w (by omega) 3 _ (by decide) rfl, hw]
  omega

theorem fifthW_toNat (w : BitVec 32) (a b : ℕ) (ha : a < 125) (hb : b < 125) (hw : w.toNat = a + 65536 * b) :
    (fifthW w).toNat = a / 5 + 65536 * (b / 5) := by
  have hm : (IntOp.muli w 205#32).toNat = 205 * a + 65536 * (205 * b) := by
    show (w * 205#32).toNat = _
    rw [BitVec.toNat_mul, hw]; simp; omega
  show (IntOp.shrsi .vector (IntOp.muli w 205#32) 10#32 &&& 2031647#32).toNat = _
  have e : ∀ x < 125, 205 * x / 1024 = x / 5 := by decide
  have ea := e a ha
  have eb := e b hb
  rw [and_fields _ _ 5 (by decide) (by decide), shrsi_toNat _ (by omega) 10 _ (by decide) rfl, hm,
    show (205 * a + 65536 * (205 * b)) / 2 ^ 10 = 205 * a / 1024 + 64 * (205 * b) by omega,
    show (205 * a / 1024 + 64 * (205 * b)) / 65536 = 205 * b / 1024 by omega, ea, eb,
    show a / 5 + 64 * (205 * b) = a / 5 + 2 ^ 5 * (410 * b) by ring, Nat.add_mul_mod_self_left,
    Nat.mod_eq_of_lt (show a / 5 < 2 ^ 5 by omega), Nat.mod_eq_of_lt (show b / 5 < 2 ^ 5 by omega)]

theorem lastW_toNat (w : BitVec 32) (a b : ℕ) (ha : a < 25) (hb : b < 25) (hw : w.toNat = a + 65536 * b) :
    (lastW w).toNat = a / 5 + 65536 * (b / 5) := by
  have hm : (IntOp.muli w 13#32).toNat = 13 * a + 65536 * (13 * b) := by
    show (w * 13#32).toNat = _
    rw [BitVec.toNat_mul, hw]; simp; omega
  show (IntOp.shrsi .vector (IntOp.muli w 13#32) 6#32 &&& 458759#32).toNat = _
  have e : ∀ x < 25, 13 * x / 64 = x / 5 := by decide
  have ea := e a ha
  have eb := e b hb
  rw [and_fields _ _ 3 (by decide) (by decide), shrsi_toNat _ (by omega) 6 _ (by decide) rfl, hm,
    show (13 * a + 65536 * (13 * b)) / 2 ^ 6 = 13 * a / 64 + 1024 * (13 * b) by omega,
    show (13 * a / 64 + 1024 * (13 * b)) / 65536 = 13 * b / 64 by omega, ea, eb,
    show a / 5 + 1024 * (13 * b) = a / 5 + 2 ^ 3 * (1664 * b) by ring, Nat.add_mul_mod_self_left,
    Nat.mod_eq_of_lt (show a / 5 < 2 ^ 3 by omega), Nat.mod_eq_of_lt (show b / 5 < 2 ^ 3 by omega)]

theorem bits0_toNat (w : BitVec 32) (a b : ℕ) (ha : a < 1000) (hb : b < 1000) (hw : w.toNat = a + 65536 * b) :
    (bits0 w).toNat = (0x4000 + 16 * (a % 8)) + 65536 * (0x4000 + 16 * (b % 8)) := by
  have h1 : (w &&& 458759#32).toNat = a % 8 + 65536 * (b % 8) := by
    rw [and_fields _ _ 3 (by decide) (by decide), hw]; omega
  have h2 : (IntOp.shli .vector (w &&& 458759#32) 4#32).toNat = (a % 8 + 65536 * (b % 8)) * 2 ^ 4 := by
    rw [shli_toNat _ 4 _ (by decide) rfl (by rw [h1]; omega), h1]
  have ha8 : a % 8 < 8 := Nat.mod_lt _ (by decide)
  have hb8 : b % 8 < 8 := Nat.mod_lt _ (by decide)
  show (IntOp.shli .vector (w &&& 458759#32) 4#32 ||| 1073758208#32).toNat = _
  rw [BitVec.toNat_or, h2]
  generalize a % 8 = x at *
  generalize b % 8 = y at *
  interval_cases x <;> interval_cases y <;> rfl

theorem bitsM_toNat (q t : BitVec 32) (a b : ℕ) (ha : a < 125) (hb : b < 125) (hq : q.toNat = a + 65536 * b)
    (ht : t.toNat = a / 5 + 65536 * (b / 5)) :
    (bitsM q t).toNat = (0x4080 + 16 * (a % 5)) + 65536 * (0x4080 + 16 * (b % 5)) := by
  have h1 : (IntOp.shli .vector q 4#32).toNat = (a + 65536 * b) * 2 ^ 4 := by
    rw [shli_toNat _ 4 _ (by decide) rfl (by rw [hq]; omega), hq]
  have h2 : (IntOp.muli t 80#32).toNat = 80 * (a / 5) + 65536 * (80 * (b / 5)) := by
    show (t * 80#32).toNat = _
    rw [BitVec.toNat_mul, ht]; simp; omega
  show (IntOp.shli .vector q 4#32 + 1082146944#32 - IntOp.muli t 80#32).toNat = _
  rw [BitVec.toNat_sub, BitVec.toNat_add, h1, h2]
  simp only [BitVec.toNat_ofNat]
  omega

theorem bitsL_toNat (q : BitVec 32) (a b : ℕ) (ha : a < 5) (hb : b < 5) (hq : q.toNat = a + 65536 * b) :
    (bitsL q).toNat = (0x4080 + 16 * a) + 65536 * (0x4080 + 16 * b) := by
  have h1 : (IntOp.shli .vector q 4#32).toNat = (a + 65536 * b) * 2 ^ 4 := by
    rw [shli_toNat _ 4 _ (by decide) rfl (by rw [hq]; omega), hq]
  show (IntOp.shli .vector q 4#32 + 1082146944#32).toNat = _
  rw [BitVec.toNat_add, h1]
  simp only [BitVec.toNat_ofNat]
  omega

/-- The low end of the bf16 numbers digit `d` is put in. -/
def baseN (d : Fin 4) : ℕ := match d with | 0 => 0x4000 | 1 => 0x4080 | 2 => 0x4080 | 3 => 0x4080

theorem digitN_lt (d : Fin 4) (n : ℕ) : digitN d n < levelN d := by
  unfold digitN; exact Nat.mod_lt _ (by fin_cases d <;> decide)

theorem digitW_toNat (d : Fin 4) (w : BitVec 32) (a b : ℕ) (ha : a < 1000) (hb : b < 1000) (hw : w.toNat = a + 65536 * b) :
    (digitW d w).toNat = (baseN d + 16 * digitN d a) + 65536 * (baseN d + 16 * digitN d b) := by
  have hq := quoW_toNat w a b ha hb hw
  have ht := fifthW_toNat _ (a / 8) (b / 8) (by omega) (by omega) hq
  have hu := lastW_toNat _ (a / 8 / 5) (b / 8 / 5) (by omega) (by omega) ht
  fin_cases d
  · have := bits0_toNat w a b ha hb hw
    simpa [digitW, baseN, digitN, strideN, levelN] using this
  · exact bitsM_toNat _ _ (a / 8) (b / 8) (by omega) (by omega) hq ht
  · have := bitsM_toNat _ _ (a / 8 / 5) (b / 8 / 5) (by omega) (by omega) ht hu
    simp only [Nat.div_div_eq_div_mul] at this
    exact this
  · have := bitsL_toNat _ (a / 8 / 5 / 5) (b / 8 / 5 / 5) (by omega) (by omega) hu
    have ea : a / 8 / 5 / 5 = a / 200 % 5 := by
      rw [Nat.div_div_eq_div_mul, Nat.div_div_eq_div_mul, Nat.mod_eq_of_lt (show a / 200 < 5 by omega)]
    have eb : b / 8 / 5 / 5 = b / 200 % 5 := by
      rw [Nat.div_div_eq_div_mul, Nat.div_div_eq_div_mul, Nat.mod_eq_of_lt (show b / 200 < 5 by omega)]
    rw [ea, eb] at this
    exact this

theorem digit_value (d : Fin 4) (x : ℕ) (hx : x < levelN d) (v : BitVec 16) (hv : v.toNat = baseN d + 16 * x) :
    Ideal.ofBits .bf16 v - Ideal.ofBits .bf16 (shiftBits d) = ((((x : ℝ) - (halfN d : ℝ)) / (halfN d : ℝ) : ℝ) : EReal) := by
  obtain rfl : v = BitVec.ofNat 16 (baseN d + 16 * x) := by
    apply BitVec.eq_of_toNat_eq; rw [hv, BitVec.toNat_ofNat, Nat.mod_eq_of_lt]
    rw [← hv]; exact v.isLt
  fin_cases d <;> simp only [levelN] at hx <;> interval_cases x <;>
    (simp [Ideal.ofBits, Ideal.ieee, baseN, shiftBits, halfN, -EReal.coe_mul, -EReal.coe_sub, ← EReal.coe_sub]; try norm_num)

/-- **The normalised digits of a packed pair**: half `o` of the word gives the normalised digit of that half's code. -/
theorem digitE_pairW (d : Fin 4) (o : ℕ) (ho : o < 2) (a b : BitVec 32) (ha : a.toNat < 1000) (hb : b.toNat < 1000) :
    digitE d o (pairW a b) = ((normDigit d (if o = 0 then a.toNat else b.toNat) : ℝ) : EReal) := by
  have h := digitW_toNat d (pairW a b) a.toNat b.toNat ha hb (pairW_toNat a b ha hb)
  have hla := digitN_lt d a.toNat
  have hlb := digitN_lt d b.toNat
  have hb1 : baseN d + 16 * digitN d a.toNat < 65536 := by
    have : levelN d ≤ 8 := by fin_cases d <;> decide
    have : baseN d ≤ 0x4080 := by fin_cases d <;> decide
    omega
  have hb2 : baseN d + 16 * digitN d b.toNat < 65536 := by
    have : levelN d ≤ 8 := by fin_cases d <;> decide
    have : baseN d ≤ 0x4080 := by fin_cases d <;> decide
    omega
  unfold digitE normDigit
  rcases (by omega : o = 0 ∨ o = 1) with rfl | rfl
  · refine digit_value d _ hla _ ?_
    rw [BitVec.extractLsb'_toNat, h, Nat.shiftRight_eq_div_pow]; omega
  · refine digit_value d _ hlb _ ?_
    rw [BitVec.extractLsb'_toNat, h, Nat.shiftRight_eq_div_pow, show 2 ^ (16 * 1) = 65536 by norm_num,
      Nat.add_mul_div_left _ _ (by norm_num), Nat.div_eq_of_lt hb1, zero_add, Nat.mod_eq_of_lt hb2]

end Cert.KernelIdeal.Hand
end
-- ==== Proof.KernelIdeal.Spec.lean ====
module

public import proofs.«01_k».proof.Proof.KernelIdeal.Loops
public import proofs.«01_k».proof.Proof.KernelIdeal.Digits
public import Idealize.ShloMosaic.Lib.MatmulPlain
@[expose] public section
set_option maxRecDepth 16384
noncomputable section
namespace Cert.KernelIdeal.Hand
open Cert.KernelIdeal.Gen
open Idealize.ShloMosaic hiding ix2 ix3 ix4 ix5
open Idealize.ShloMosaic.TcCoe Idealize.ShloMosaic.Tactic
open Idealize.ShloMosaic.ValueIdx

/-! # What one tile of the kernel's result is

The planes of normalised digits the kernel multiplies by, and the tile it stores, read at an index. -/

/-- The digit planes of one pair of code tiles, 128 columns wide. -/
def narrow (p q : Vec Ideal S1x1x1x8x128 .i32) : FVec Ideal S64x128 .bf16 :=
  k0_pay61 (F := Ideal) (k0_pay56 p q) (k0_pay57 p q) (k0_pay58 p q) (k0_pay59 p q) k0_pay60

/-- The digit planes of four code tiles, 256 columns wide. -/
def wide (b0 b1 b2 b3 : Vec Ideal S8x128 .i32) : FVec Ideal S64x256 .bf16 :=
  k0_pay110 (F := Ideal) (k0_pay106 (k0_pay103 b0) (k0_pay104 b1) b2 b3) (k0_pay107 (k0_pay103 b0) (k0_pay104 b1) b2 b3)
    (k0_pay108 (k0_pay103 b0) (k0_pay104 b1) b2 b3) (k0_pay109 (k0_pay103 b0) (k0_pay104 b1) b2 b3)

/-- The product of an expanded weight matrix with two stacks of planes. -/
def acc (w : Vec Ideal S1x1x160x128 .bf16) (first last : FVec Ideal S64x256 .bf16) : FVec Ideal S160x256 .f32 :=
  k0_pay115 last first w

/-- The left tile of a scaled and shifted product. -/
def tile0 (A : FVec Ideal S160x256 .f32) (sc bi : Vec Ideal S160x128 .f32) : FVec Ideal S1x160x128 .bf16 :=
  k0_pay113 (mulf (extractStridedSlice S160x128 ![0, 0] A slices_S160x256_o0_0_S160x128) sc) bi

/-- The right tile of a scaled and shifted product. -/
def tile1 (A : FVec Ideal S160x256 .f32) (sc bi : Vec Ideal S160x128 .f32) : FVec Ideal S1x160x128 .bf16 :=
  k0_pay114 A sc bi

/-- A reinterpretation of 32-bit words as pairs of 16-bit rows, at an index. -/
theorem bitcast_rows {n : ℕ} (x : (⟨2, ![8, n]⟩ : Shape).Idx → BitVec 32) (h : (⟨2, ![8, n]⟩ : Shape).Bitcasts 32 ⟨2, ![16, n]⟩ 16)
    (r : Fin 16) (l : Fin n) :
    bitcast ⟨2, ![16, n]⟩ 16 x h (ix2 r l) = (x (ix2 ⟨r.val / 2, by omega⟩ l)).extractLsb' (16 * (r.val % 2)) 16 := by
  have hrow : Shape.row (s := ⟨2, ![16, n]⟩) (ix2 r l) = r.val := by rfl
  rw [bitcast_32_16]
  have e : h.srcIdx (ix2 r l) (Shape.row (s := ⟨2, ![16, n]⟩) (ix2 r l) / 2) (fun a ha => by
        have := h.pos_lt (ix2 r l) 0 (by decide) a ha; omega) = ix2 ⟨r.val / 2, by omega⟩ l := by
    funext a
    apply Fin.ext
    match a with
    | ⟨0, _⟩ => rw [Shape.Bitcasts.srcIdx_row _ _ _ _ _ rfl, hrow]
    | ⟨1, _⟩ => rw [Shape.Bitcasts.srcIdx_other _ _ _ _ _ (by show ¬ (1 + 2 = 2); decide)]; rfl
  rw [e, hrow]

/-- Four blocks of sixteen rows stacked, at a row of block `d`. -/
theorem cat4 {n : ℕ} {α : Type} (x : Fin 4 → (⟨2, ![16, n]⟩ : Shape).Idx → α)
    (h : Shape.Concatenates [⟨2, ![16, n]⟩, ⟨2, ![16, n]⟩, ⟨2, ![16, n]⟩, ⟨2, ![16, n]⟩] ⟨2, ![64, n]⟩ 0) (d : Fin 4) (r : Fin 16) (l : Fin n) :
    concatenate ⟨2, ![64, n]⟩ 0 [⟨⟨2, ![16, n]⟩, x 0⟩, ⟨⟨2, ![16, n]⟩, x 1⟩, ⟨⟨2, ![16, n]⟩, x 2⟩, ⟨⟨2, ![16, n]⟩, x 3⟩] h
      (ix2 ⟨16 * d.val + r.val, by omega⟩ l) = x d (ix2 r l) := by
  let xs : List ((s : Shape) × (s.Idx → α)) := [⟨⟨2, ![16, n]⟩, x 0⟩, ⟨⟨2, ![16, n]⟩, x 1⟩, ⟨⟨2, ![16, n]⟩, x 2⟩, ⟨⟨2, ![16, n]⟩, x 3⟩]
  have h' : Shape.Concatenates (xs.map (·.1)) ⟨2, ![64, n]⟩ 0 := h
  fin_cases d
  · exact concatenate_apply_piece (t := ⟨2, ![64, n]⟩) 0 xs h' _ 0 (by simp [xs]) _ (x 0) rfl rfl 0 rfl (ix2 r l)
      (fun b hb => by match b with | ⟨0, _⟩ => exact absurd rfl hb | ⟨1, _⟩ => rfl) rfl
  · exact concatenate_apply_piece (t := ⟨2, ![64, n]⟩) 0 xs h' _ 1 (by simp [xs]) _ (x 1) rfl rfl 16 rfl (ix2 r l)
      (fun b hb => by match b with | ⟨0, _⟩ => exact absurd rfl hb | ⟨1, _⟩ => rfl) rfl
  · exact concatenate_apply_piece (t := ⟨2, ![64, n]⟩) 0 xs h' _ 2 (by simp [xs]) _ (x 2) rfl rfl 32 rfl (ix2 r l)
      (fun b hb => by match b with | ⟨0, _⟩ => exact absurd rfl hb | ⟨1, _⟩ => rfl) rfl
  · exact concatenate_apply_piece (t := ⟨2, ![64, n]⟩) 0 xs h' _ 3 (by simp [xs]) _ (x 3) rfl rfl 48 rfl (ix2 r l)
      (fun b hb => by match b with | ⟨0, _⟩ => exact absurd rfl hb | ⟨1, _⟩ => rfl) rfl

/-- The block of sixteen rows of digit `d`'s plane made of a vector of packed words. -/
def plane (n : ℕ) (h : (⟨2, ![8, n]⟩ : Shape).Bitcasts 32 ⟨2, ![16, n]⟩ 16) (w : (⟨2, ![8, n]⟩ : Shape).Idx → BitVec 32) (d : Fin 4) :
    (⟨2, ![16, n]⟩ : Shape).Idx → EReal :=
  fun j => Ideal.ofBits .bf16 (bitcast ⟨2, ![16, n]⟩ 16 (fun i => digitW d (w i)) h j) - Ideal.ofBits .bf16 (shiftBits d)

theorem plane_apply (n : ℕ) (h : (⟨2, ![8, n]⟩ : Shape).Bitcasts 32 ⟨2, ![16, n]⟩ 16) (w : (⟨2, ![8, n]⟩ : Shape).Idx → BitVec 32) (d : Fin 4)
    (r : Fin 16) (l : Fin n) : plane n h w d (ix2 r l) = digitE d (r.val % 2) (w (ix2 ⟨r.val / 2, by omega⟩ l)) := by
  unfold plane digitE
  rw [bitcast_rows]

/-- The planes of one pair of tiles, at row `16 d + r`: digit `d` of half `r % 2` of the word of row `r / 2`. -/
theorem narrow_apply (p q : Vec Ideal S1x1x1x8x128 .i32) (d : Fin 4) (r : Fin 16) (l : Fin 128) :
    narrow p q (ix2 ⟨16 * d.val + r.val, by omega⟩ l)
      = digitE d (r.val % 2) (pairW (p (ix5 0 0 0 ⟨r.val / 2, by omega⟩ l)) (q (ix5 0 0 0 ⟨r.val / 2, by omega⟩ l))) := by
  have hc : ∀ v : Vec Ideal S1x1x1x8x128 .i32, ∀ (s : Fin 8) (l : Fin 128),
      shapeCast S8x128 v shapeCasts_S1x1x1x8x128_S8x128 (ix2 s l) = v (ix5 0 0 0 s l) := by
    intro v s l
    refine shapeCast_apply v _ _ _ ?_
    rw [Shape.rowMajor_val_five, Shape.rowMajor_val_two]
    simp
  let w : S8x128.Idx → BitVec 32 := fun i => pairW (shapeCast S8x128 p shapeCasts_S1x1x1x8x128_S8x128 i) (shapeCast S8x128 q shapeCasts_S1x1x1x8x128_S8x128 i)
  have e : narrow p q = concatenate S64x128 0 [⟨S16x128, plane 128 bitcasts_S8x128_w32_S16x128_w16 w 0⟩,
      ⟨S16x128, plane 128 bitcasts_S8x128_w32_S16x128_w16 w 1⟩, ⟨S16x128, plane 128 bitcasts_S8x128_w32_S16x128_w16 w 2⟩,
      ⟨S16x128, plane 128 bitcasts_S8x128_w32_S16x128_w16 w 3⟩] concatenates_S16x128_S16x128_S16x128_S16x128_S64x128_d0 := rfl
  rw [e]
  refine (cat4 (plane 128 bitcasts_S8x128_w32_S16x128_w16 w) _ d r l).trans ?_
  rw [plane_apply]
  show digitE d _ (pairW _ _) = _
  rw [hc, hc]

/-- Two blocks of 128 columns side by side, at a column of block `c`. -/
theorem cat2 {m : ℕ} {α : Type} (x y : (⟨2, ![m, 128]⟩ : Shape).Idx → α)
    (h : Shape.Concatenates [⟨2, ![m, 128]⟩, ⟨2, ![m, 128]⟩] ⟨2, ![m, 256]⟩ 1) (r : Fin m) (c : Fin 2) (l : Fin 128) :
    concatenate ⟨2, ![m, 256]⟩ 1 [⟨⟨2, ![m, 128]⟩, x⟩, ⟨⟨2, ![m, 128]⟩, y⟩] h (ix2 r ⟨128 * c.val + l.val, by omega⟩)
      = if c.val = 0 then x (ix2 r l) else y (ix2 r l) := by
  let xs : List ((s : Shape) × (s.Idx → α)) := [⟨⟨2, ![m, 128]⟩, x⟩, ⟨⟨2, ![m, 128]⟩, y⟩]
  have h' : Shape.Concatenates (xs.map (·.1)) ⟨2, ![m, 256]⟩ 1 := h
  fin_cases c
  · exact concatenate_apply_piece (t := ⟨2, ![m, 256]⟩) 1 xs h' _ 0 (by simp [xs]) _ x rfl rfl 0 rfl (ix2 r l)
      (fun b hb => by match b with | ⟨0, _⟩ => rfl | ⟨1, _⟩ => exact absurd rfl hb) rfl
  · exact concatenate_apply_piece (t := ⟨2, ![m, 256]⟩) 1 xs h' _ 1 (by simp [xs]) _ y rfl rfl 128 rfl (ix2 r l)
      (fun b hb => by match b with | ⟨0, _⟩ => rfl | ⟨1, _⟩ => exact absurd rfl hb) rfl

/-- Two stacks of 64 rows, one above the other: a row of the upper one. -/
theorem cat64_left {α : Type} (x y : S64x256.Idx → α)
    (h : Shape.Concatenates [S64x256, S64x256] S128x256 0) (r : Fin 64) (l : Fin 256) :
    concatenate S128x256 0 [⟨S64x256, x⟩, ⟨S64x256, y⟩] h (ix2 ⟨r.val, by omega⟩ l) = x (ix2 r l) := by
  let xs : List ((s : Shape) × (s.Idx → α)) := [⟨S64x256, x⟩, ⟨S64x256, y⟩]
  have h' : Shape.Concatenates (xs.map (·.1)) S128x256 0 := h
  exact concatenate_apply_piece (t := S128x256) 0 xs h' _ 0 (by simp [xs]) _ x rfl rfl 0 rfl (ix2 r l)
      (fun b hb => by match b with | ⟨0, _⟩ => exact absurd rfl hb | ⟨1, _⟩ => rfl) (by show 0 + r.val = r.val; omega)

/-- Two stacks of 64 rows, one above the other: a row of the lower one. -/
theorem cat64_right {α : Type} (x y : S64x256.Idx → α)
    (h : Shape.Concatenates [S64x256, S64x256] S128x256 0) (r : Fin 64) (l : Fin 256) :
    concatenate S128x256 0 [⟨S64x256, x⟩, ⟨S64x256, y⟩] h (ix2 ⟨64 + r.val, by omega⟩ l) = y (ix2 r l) := by
  let xs : List ((s : Shape) × (s.Idx → α)) := [⟨S64x256, x⟩, ⟨S64x256, y⟩]
  have h' : Shape.Concatenates (xs.map (·.1)) S128x256 0 := h
  exact concatenate_apply_piece (t := S128x256) 0 xs h' _ 1 (by simp [xs]) _ y rfl rfl 64 rfl (ix2 r l)
      (fun b hb => by match b with | ⟨0, _⟩ => exact absurd rfl hb | ⟨1, _⟩ => rfl) rfl

/-- The planes of four tiles, at row `16 d + r` and column `l` of block `c`. -/
theorem wide_apply (b0 b1 b2 b3 : Vec Ideal S8x128 .i32) (d : Fin 4) (r : Fin 16) (c : Fin 2) (l : Fin 128) :
    wide b0 b1 b2 b3 (ix2 ⟨16 * d.val + r.val, by omega⟩ ⟨128 * c.val + l.val, by omega⟩)
      = digitE d (r.val % 2) (pairW (if c.val = 0 then b0 (ix2 ⟨r.val / 2, by omega⟩ l) else b1 (ix2 ⟨r.val / 2, by omega⟩ l))
          (if c.val = 0 then b2 (ix2 ⟨r.val / 2, by omega⟩ l) else b3 (ix2 ⟨r.val / 2, by omega⟩ l))) := by
  have hc : ∀ v : Vec Ideal S8x128 .i32, shapeCast S8x128 v shapeCasts_S8x128_S8x128 = v := by
    intro v
    funext j
    exact shapeCast_apply v _ j j rfl
  let lo : S8x256.Idx → BitVec 32 := concatenate S8x256 1 [⟨S8x128, shapeCast S8x128 b0 shapeCasts_S8x128_S8x128⟩,
    ⟨S8x128, shapeCast S8x128 b1 shapeCasts_S8x128_S8x128⟩] concatenates_S8x128_S8x128_S8x256_d1
  let hi : S8x256.Idx → BitVec 32 := concatenate S8x256 1 [⟨S8x128, shapeCast S8x128 b2 shapeCasts_S8x128_S8x128⟩,
    ⟨S8x128, shapeCast S8x128 b3 shapeCasts_S8x128_S8x128⟩] concatenates_S8x128_S8x128_S8x256_d1
  let w : S8x256.Idx → BitVec 32 := fun i => pairW (lo i) (hi i)
  have e : wide b0 b1 b2 b3 = concatenate S64x256 0 [⟨S16x256, plane 256 bitcasts_S8x256_w32_S16x256_w16 w 0⟩,
      ⟨S16x256, plane 256 bitcasts_S8x256_w32_S16x256_w16 w 1⟩, ⟨S16x256, plane 256 bitcasts_S8x256_w32_S16x256_w16 w 2⟩,
      ⟨S16x256, plane 256 bitcasts_S8x256_w32_S16x256_w16 w 3⟩] concatenates_S16x256_S16x256_S16x256_S16x256_S64x256_d0 := rfl
  rw [e]
  refine (cat4 (plane 256 bitcasts_S8x256_w32_S16x256_w16 w) _ d r _).trans ?_
  rw [plane_apply]
  have hlo : lo (ix2 ⟨r.val / 2, by omega⟩ ⟨128 * c.val + l.val, by omega⟩)
      = if c.val = 0 then b0 (ix2 ⟨r.val / 2, by omega⟩ l) else b1 (ix2 ⟨r.val / 2, by omega⟩ l) := by
    refine (cat2 _ _ _ _ c l).trans ?_
    rw [hc, hc]
  have hhi : hi (ix2 ⟨r.val / 2, by omega⟩ ⟨128 * c.val + l.val, by omega⟩)
      = if c.val = 0 then b2 (ix2 ⟨r.val / 2, by omega⟩ l) else b3 (ix2 ⟨r.val / 2, by omega⟩ l) := by
    refine (cat2 _ _ _ _ c l).trans ?_
    rw [hc, hc]
  exact congrArg₂ (fun a b => digitE d (r.val % 2) (pairW a b)) hlo hhi

/-- A sum over 128 positions, as two times four blocks of sixteen. -/
theorem sum128 (f : Fin 128 → EReal) :
    ∑ k, f k = (∑ d : Fin 4, ∑ r : Fin 16, f ⟨16 * d.val + r.val, by omega⟩) + ∑ d : Fin 4, ∑ r : Fin 16, f ⟨64 + (16 * d.val + r.val), by omega⟩ := by
  have h64 : ∀ g : Fin 64 → EReal, ∑ k, g k = ∑ d : Fin 4, ∑ r : Fin 16, g ⟨16 * d.val + r.val, by omega⟩ := by
    intro g
    rw [← Fintype.sum_prod_type', ← Equiv.sum_comp (finProdFinEquiv (m := 4) (n := 16))]
    refine Finset.sum_congr rfl fun x _ => congrArg g (Fin.ext ?_)
    show x.2.val + 16 * x.1.val = 16 * x.1.val + x.2.val
    omega
  have h : ∑ k, f k = ∑ k : Fin (64 + 64), f k := rfl
  rw [h, Fin.sum_univ_add, h64, h64]
  rfl

/-- A sum over sixteen positions, as eight pairs. -/
theorem sum16 (f : Fin 16 → EReal) : ∑ r, f r = ∑ p : Fin 8, ∑ o : Fin 2, f ⟨2 * p.val + o.val, by omega⟩ := by
  rw [← Fintype.sum_prod_type', ← Equiv.sum_comp (finProdFinEquiv (m := 8) (n := 2))]
  refine Finset.sum_congr rfl fun x _ => congrArg f (Fin.ext ?_)
  show x.2.val + 2 * x.1.val = 2 * x.1.val + x.2.val
  omega

/-- The expanded weights of batch `b` and half `h`: the weights of the ten codes' digits put where the planes hold the digits
    of that batch and half, and zero elsewhere. -/
def expW (W : Fin 40 → Fin 160 → EReal) (b : Fin 8) (h : Fin 2) (d : Fin 160) (k : Fin 128) : EReal :=
  if k.val < 64 then
    if k.val % 2 = h.val then W ⟨4 * (k.val / 2 % 8) + k.val / 16 % 4, by omega⟩ d else 0
  else
    if k.val / 2 % 8 = b.val then W ⟨4 * (8 + k.val % 2) + k.val / 16 % 4, by omega⟩ d else 0

/-- The dequantised value before scale and bias: over the ten codes and four digits, weight times normalised digit. -/
def latent (W : Fin 40 → Fin 160 → EReal) (d : Fin 160) (C : Fin 10 → BitVec 32) : EReal :=
  ∑ k : Fin 10, ∑ g : Fin 4, W ⟨4 * k.val + g.val, by omega⟩ d * ((normDigit g (C k).toNat : ℝ) : EReal)

/-- **The product, at a column**: the expanded weights times the planes is the sum over the ten codes and four digits. -/
theorem acc_apply (w : Vec Ideal S1x1x160x128 .bf16) (b0 b1 b2 b3 : Vec Ideal S8x128 .i32) (p0 q0 p1 q1 : Vec Ideal S1x1x1x8x128 .i32)
    (b : Fin 8) (h : Fin 2) (W : Fin 40 → Fin 160 → EReal) (C : Fin 10 → Fin 4 → Fin 128 → BitVec 32)
    (hw : ∀ d k, w (ix4 0 0 d k) = expW W b h d k)
    (hb0 : ∀ (s : Fin 8) l, b0 (ix2 s l) = C ⟨s.val, by omega⟩ 0 l) (hb1 : ∀ (s : Fin 8) l, b1 (ix2 s l) = C ⟨s.val, by omega⟩ 1 l)
    (hb2 : ∀ (s : Fin 8) l, b2 (ix2 s l) = C ⟨s.val, by omega⟩ 2 l) (hb3 : ∀ (s : Fin 8) l, b3 (ix2 s l) = C ⟨s.val, by omega⟩ 3 l)
    (hp0 : ∀ l, p0 (ix5 0 0 0 b l) = C 8 ⟨2 * h.val, by omega⟩ l) (hq0 : ∀ l, q0 (ix5 0 0 0 b l) = C 9 ⟨2 * h.val, by omega⟩ l)
    (hp1 : ∀ l, p1 (ix5 0 0 0 b l) = C 8 ⟨2 * h.val + 1, by omega⟩ l) (hq1 : ∀ l, q1 (ix5 0 0 0 b l) = C 9 ⟨2 * h.val + 1, by omega⟩ l)
    (hC : ∀ k t l, (C k t l).toNat < 1000) (d : Fin 160) (c : Fin 2) (l : Fin 128) :
    acc w (wide b0 b1 b2 b3) (k0_pay85 (narrow p0 q0) (narrow p1 q1)) (ix2 d ⟨128 * c.val + l.val, by omega⟩)
      = latent W d fun k => C k ⟨2 * h.val + c.val, by omega⟩ l := by
  have hcw : ∀ k : Fin 128, shapeCast S160x128 w shapeCasts_S1x1x160x128_S160x128 (ix2 d k) = expW W b h d k := by
    intro k
    rw [← hw]
    refine shapeCast_apply w _ _ _ ?_
    rw [Shape.rowMajor_val_four, Shape.rowMajor_val_two]
    simp
  have hm := Ideal.matmul_plain_apply (M := 160) (K := 128) (N := 256) (φ₁ := .bf16) (φ₂ := .bf16) none
    (shapeCast S160x128 w shapeCasts_S1x1x160x128_S160x128)
    (concatenate S128x256 0 [⟨S64x256, wide b0 b1 b2 b3⟩, ⟨S64x256, k0_pay85 (narrow p0 q0) (narrow p1 q1)⟩] concatenates_S64x256_S64x256_S128x256_d0)
    (constant S160x256 .f32 0x00000000#32) d ⟨128 * c.val + l.val, by omega⟩
  refine (Eq.trans rfl hm).trans ?_
  rw [show (constant S160x256 .f32 0x00000000#32 : FVec Ideal S160x256 .f32) (ix2 d ⟨128 * c.val + l.val, by omega⟩) = 0 by
    show Ideal.ofBits .f32 0x00000000#32 = 0
    simp [Ideal.ofBits, Ideal.ieee], zero_add, sum128]
  -- the upper half
  have hup : ∀ (g : Fin 4) (r : Fin 16),
      shapeCast S160x128 w shapeCasts_S1x1x160x128_S160x128 (ix2 d ⟨16 * g.val + r.val, by omega⟩)
        * concatenate S128x256 0 [⟨S64x256, wide b0 b1 b2 b3⟩, ⟨S64x256, k0_pay85 (narrow p0 q0) (narrow p1 q1)⟩] concatenates_S64x256_S64x256_S128x256_d0
            (ix2 ⟨16 * g.val + r.val, by omega⟩ ⟨128 * c.val + l.val, by omega⟩)
      = if r.val % 2 = h.val then W ⟨4 * (r.val / 2) + g.val, by omega⟩ d
          * ((normDigit g (C ⟨r.val / 2, by omega⟩ ⟨2 * h.val + c.val, by omega⟩ l).toNat : ℝ) : EReal) else 0 := by
    intro g r
    have e := cat64_left (wide b0 b1 b2 b3) (k0_pay85 (narrow p0 q0) (narrow p1 q1)) concatenates_S64x256_S64x256_S128x256_d0
      ⟨16 * g.val + r.val, by omega⟩ ⟨128 * c.val + l.val, by omega⟩
    rw [hcw, e, wide_apply]
    unfold expW
    rw [if_pos (show 16 * g.val + r.val < 64 by omega)]
    by_cases hr : r.val % 2 = h.val
    · rw [if_pos (show (16 * g.val + r.val) % 2 = h.val by omega), if_pos hr]
      congr 1
      · congr 1; apply Fin.ext; show 4 * ((16 * g.val + r.val) / 2 % 8) + (16 * g.val + r.val) / 16 % 4 = 4 * (r.val / 2) + g.val; omega
      · rw [hb0, hb1, hb2, hb3, digitE_pairW g _ (by omega) _ _ (by split <;> exact hC _ _ _) (by split <;> exact hC _ _ _)]
        congr 3
        have h01 : h.val = 0 ∨ h.val = 1 := by omega
        have c01 : c.val = 0 ∨ c.val = 1 := by omega
        rcases h01 with h0 | h0 <;> rcases c01 with c0 | c0 <;> simp [hr, h0, c0] <;> rfl
    · rw [if_neg (show ¬ (16 * g.val + r.val) % 2 = h.val by omega), if_neg hr, zero_mul]
  have hlo : ∀ (g : Fin 4) (r : Fin 16),
      shapeCast S160x128 w shapeCasts_S1x1x160x128_S160x128 (ix2 d ⟨64 + (16 * g.val + r.val), by omega⟩)
        * concatenate S128x256 0 [⟨S64x256, wide b0 b1 b2 b3⟩, ⟨S64x256, k0_pay85 (narrow p0 q0) (narrow p1 q1)⟩] concatenates_S64x256_S64x256_S128x256_d0
            (ix2 ⟨64 + (16 * g.val + r.val), by omega⟩ ⟨128 * c.val + l.val, by omega⟩)
      = if r.val / 2 = b.val then W ⟨4 * (8 + r.val % 2) + g.val, by omega⟩ d
          * ((normDigit g (C ⟨8 + r.val % 2, by omega⟩ ⟨2 * h.val + c.val, by omega⟩ l).toNat : ℝ) : EReal) else 0 := by
    intro g r
    have e := cat64_right (wide b0 b1 b2 b3) (k0_pay85 (narrow p0 q0) (narrow p1 q1)) concatenates_S64x256_S64x256_S128x256_d0
      ⟨16 * g.val + r.val, by omega⟩ ⟨128 * c.val + l.val, by omega⟩
    have e2 := cat2 (narrow p0 q0) (narrow p1 q1) concatenates_S64x128_S64x128_S64x256_d1 ⟨16 * g.val + r.val, by omega⟩ c l
    rw [hcw, e, show k0_pay85 (narrow p0 q0) (narrow p1 q1) (ix2 ⟨16 * g.val + r.val, by omega⟩ ⟨128 * c.val + l.val, by omega⟩) = _ from e2,
      narrow_apply, narrow_apply]
    unfold expW
    rw [if_neg (show ¬ 64 + (16 * g.val + r.val) < 64 by omega)]
    by_cases hr : r.val / 2 = b.val
    · rw [if_pos (show (64 + (16 * g.val + r.val)) / 2 % 8 = b.val by omega), if_pos hr]
      congr 1
      · congr 1; apply Fin.ext; show 4 * (8 + (64 + (16 * g.val + r.val)) % 2) + (64 + (16 * g.val + r.val)) / 16 % 4 = 4 * (8 + r.val % 2) + g.val; omega
      · have hbr : (⟨r.val / 2, by omega⟩ : Fin 8) = b := Fin.ext hr
        rw [hbr, hp0, hq0, hp1, hq1, digitE_pairW g _ (by omega) _ _ (hC _ _ _) (hC _ _ _), digitE_pairW g _ (by omega) _ _ (hC _ _ _) (hC _ _ _)]
        have c01 : c.val = 0 ∨ c.val = 1 := by omega
        have r01 : r.val % 2 = 0 ∨ r.val % 2 = 1 := by omega
        rcases c01 with c0 | c0 <;> rcases r01 with r0 | r0 <;> simp [c0, r0] <;> rfl
    · rw [if_neg (show ¬ (64 + (16 * g.val + r.val)) / 2 % 8 = b.val by omega), if_neg hr, zero_mul]
  rw [Finset.sum_congr rfl fun g _ => Finset.sum_congr rfl fun r _ => hup g r,
    Finset.sum_congr rfl fun g _ => Finset.sum_congr rfl fun r _ => hlo g r]
  have e1 : ∀ g : Fin 4, (∑ r : Fin 16, if r.val % 2 = h.val then W ⟨4 * (r.val / 2) + g.val, by omega⟩ d
          * ((normDigit g (C ⟨r.val / 2, by omega⟩ ⟨2 * h.val + c.val, by omega⟩ l).toNat : ℝ) : EReal) else 0)
      = ∑ p : Fin 8, W ⟨4 * p.val + g.val, by omega⟩ d
          * ((normDigit g (C ⟨p.val, by omega⟩ ⟨2 * h.val + c.val, by omega⟩ l).toNat : ℝ) : EReal) := by
    intro g
    rw [sum16]
    refine Finset.sum_congr rfl fun p _ => ?_
    rw [Finset.sum_eq_single h]
    · rw [if_pos (show (2 * p.val + h.val) % 2 = h.val by omega)]
      have e : (2 * p.val + h.val) / 2 = p.val := by omega
      simp only [e]
    · intro o _ ho
      exact if_neg (show ¬ (2 * p.val + o.val) % 2 = h.val from fun hh => ho (Fin.ext (by omega)))
    · intro hh; exact absurd (Finset.mem_univ _) hh
  have e2 : ∀ g : Fin 4, (∑ r : Fin 16, if r.val / 2 = b.val then W ⟨4 * (8 + r.val % 2) + g.val, by omega⟩ d
          * ((normDigit g (C ⟨8 + r.val % 2, by omega⟩ ⟨2 * h.val + c.val, by omega⟩ l).toNat : ℝ) : EReal) else 0)
      = ∑ o : Fin 2, W ⟨4 * (8 + o.val) + g.val, by omega⟩ d
          * ((normDigit g (C ⟨8 + o.val, by omega⟩ ⟨2 * h.val + c.val, by omega⟩ l).toNat : ℝ) : EReal) := by
    intro g
    rw [sum16, Finset.sum_eq_single b]
    · refine Finset.sum_congr rfl fun o _ => ?_
      rw [if_pos (show (2 * b.val + o.val) / 2 = b.val by omega)]
      have e : (2 * b.val + o.val) % 2 = o.val := by omega
      simp only [e]
    · intro p _ hp
      refine Finset.sum_eq_zero fun o _ => ?_
      exact if_neg (show ¬ (2 * p.val + o.val) / 2 = b.val from fun hh => hp (Fin.ext (by omega)))
    · intro hh; exact absurd (Finset.mem_univ _) hh
  rw [Finset.sum_congr rfl fun g _ => e1 g, Finset.sum_congr rfl fun g _ => e2 g, Finset.sum_comm,
    Finset.sum_comm (s := (Finset.univ : Finset (Fin 4))) (t := (Finset.univ : Finset (Fin 2)))]
  exact (Fin.sum_univ_add (a := 8) (b := 2) (fun k : Fin (8 + 2) => ∑ g : Fin 4, W ⟨4 * k.val + g.val, by omega⟩ d
    * ((normDigit g (C k ⟨2 * h.val + c.val, by omega⟩ l).toNat : ℝ) : EReal))).symm

/-- The left tile at an index: the product's left half, scaled and shifted. -/
theorem tile0_apply (A : FVec Ideal S160x256 .f32) (sc bi : Vec Ideal S160x128 .f32) (d : Fin 160) (l : Fin 128) :
    tile0 A sc bi (ix3 0 d l) = A (ix2 d ⟨128 * (0 : Fin 2).val + l.val, by omega⟩) * sc (ix2 d l) + bi (ix2 d l) := by
  unfold tile0 k0_pay113
  refine (shapeCast_apply _ _ _ (ix2 d l) ?_).trans ?_
  · rw [Shape.rowMajor_val_three, Shape.rowMajor_val_two]; simp
  · show extractStridedSlice S160x128 ![0, 0] A slices_S160x256_o0_0_S160x128 (ix2 d l) * sc (ix2 d l) + bi (ix2 d l) = _
    rw [extractStridedSlice_apply ![0, 0] A _ (ix2 d l) (ix2 d ⟨128 * (0 : Fin 2).val + l.val, by omega⟩)
      (fun a => by match a with | ⟨0, _⟩ => (show d.val = 0 + d.val; omega) | ⟨1, _⟩ => rfl)]

/-- The right tile at an index: the product's right half, scaled and shifted. -/
theorem tile1_apply (A : FVec Ideal S160x256 .f32) (sc bi : Vec Ideal S160x128 .f32) (d : Fin 160) (l : Fin 128) :
    tile1 A sc bi (ix3 0 d l) = A (ix2 d ⟨128 * (1 : Fin 2).val + l.val, by omega⟩) * sc (ix2 d l) + bi (ix2 d l) := by
  unfold tile1 k0_pay114
  refine (shapeCast_apply _ _ _ (ix2 d l) ?_).trans ?_
  · rw [Shape.rowMajor_val_three, Shape.rowMajor_val_two]; simp
  · show extractStridedSlice S160x128 ![0, 128] A slices_S160x256_o0_128_S160x128 (ix2 d l) * sc (ix2 d l) + bi (ix2 d l) = _
    rw [extractStridedSlice_apply ![0, 128] A _ (ix2 d l) (ix2 d ⟨128 * (1 : Fin 2).val + l.val, by omega⟩)
      (fun a => by match a with | ⟨0, _⟩ => (show d.val = 0 + d.val; omega) | ⟨1, _⟩ => rfl)]

end Cert.KernelIdeal.Hand
end
-- ==== Proof.KernelIdeal.Trip.lean ====
module

public import proofs.«01_k».proof.Proof.KernelIdeal.Spec
@[expose] public section
set_option maxRecDepth 16384
noncomputable section
namespace Cert.KernelIdeal.Hand
open Cert.KernelIdeal.Gen
open Idealize.ShloMosaic hiding ix2 ix3 ix4 ix5
open Idealize.ShloMosaic.TcCoe Idealize.ShloMosaic.Tactic
open Idealize.ShloMosaic.ValueIdx

/-! # What one trip of the kernel's loop stores

Each of a trip's 32 stores writes one tile of one function of the block's index, `blockG`. -/

/-- The block of the result, at an index: the dequantised codes of that batch and column, times the scale, plus the bias. -/
def blockG (x0 : S10x1x16x8x128.Idx → BitVec 32) (W : Fin 40 → Fin 160 → EReal) (SC BI : Fin 160 → EReal) (y : S8x160x2048.Idx) : EReal :=
  latent W (y 1) (fun k => x0 (ix5 k 0 ⟨(y 2).val / 128, by have : (y 2).val < 2048 := (y 2).isLt; omega⟩ (y 0) ⟨(y 2).val % 128, by omega⟩)) * SC (y 1) + BI (y 1)

theorem trips4 (k : Fin k0_t1_loop.trips) : k.val < 4 := lt_of_lt_of_eq k.isLt (by decide)

section Loads
variable (arg2 : Memref sig .tc .vmem S10x1x16x8x128 .i32) (harg2 : arg2.IsWhole) (X2 : BufTy.Contents (Elt Ideal) arg2.view.ty)

/-- The rows of the first eight codes of batch `r₂` in tile `r₁` of trip `k`. -/
def rowsAt (k : Fin k0_t1_loop.trips) (r₁ : Fin 4) (r₂ : Fin 8) : Vec Ideal S8x128 .i32 :=
  View.readAt (Elt Ideal) (arg2.reshape S1280x128 reshapes_S10x1x16x8x128_S1280x128.1 reshapes_S10x1x16x8x128_S1280x128.2 harg2.contiguous).view
    ⟨k0_off3 k (BitVec.ofNat 32 r₁.val) (BitVec.ofNat 32 r₂.val), S8x128.size, ![128, 1], k0_off3_inb k r₁ r₂⟩ X2

/-- The tile `r` of trip `k` of the ninth code. -/
def code8At (k : Fin k0_t1_loop.trips) (r : Fin 4) : Vec Ideal S1x1x1x8x128 .i32 :=
  View.readAt (Elt Ideal) arg2.view (Rect.unit (s := S10x1x16x8x128) (k0_off1 k (BitVec.ofNat 32 r.val)) S1x1x1x8x128.size (k0_off1_inb k r)).toLoadRect X2

/-- The tile `r` of trip `k` of the tenth code. -/
def code9At (k : Fin k0_t1_loop.trips) (r : Fin 4) : Vec Ideal S1x1x1x8x128 .i32 :=
  View.readAt (Elt Ideal) arg2.view (Rect.unit (s := S10x1x16x8x128) (k0_off2 k (BitVec.ofNat 32 r.val)) S1x1x1x8x128.size (k0_off2_inb k r)).toLoadRect X2

variable {arg2 X2} {x0 : S10x1x16x8x128.Idx → BitVec 32} (h2 : arg2.view.read (Elt Ideal) X2 = x0)
include h2

theorem rowsAt_apply (k : Fin k0_t1_loop.trips) (r₁ : Fin 4) (r₂ : Fin 8) (s : Fin 8) (l : Fin 128) :
    rowsAt arg2 harg2 X2 k r₁ r₂ (ix2 s l) = x0 (ix5 ⟨s.val, by omega⟩ 0 ⟨4 * k.val + r₁.val, by have := trips4 k; omega⟩ r₂ l) := by
  rw [← h2]
  unfold rowsAt
  rw [View.readAt_apply]
  refine congrArg (arg2.view.read (Elt Ideal) X2) (Shape.reshapeEquiv_eq_of_rowMajor reshapes_S10x1x16x8x128_S1280x128.1 ?_)
  have e := k0_off3_eq k r₁ r₂
  have e0 : k0_off3 k (BitVec.ofNat 32 r₁.val) (BitVec.ofNat 32 r₂.val) 0 = 32 * k.val + 8 * r₁.val + r₂.val := by rw [e]; rfl
  have e1 : k0_off3 k (BitVec.ofNat 32 r₁.val) (BitVec.ofNat 32 r₂.val) 1 = 0 := by rw [e]; rfl
  refine (Shape.rowMajor_val_five _).trans (Eq.trans ?_ (Shape.rowMajor_val_two _).symm)
  show (((s.val * 1 + 0) * 16 + (4 * k.val + r₁.val)) * 8 + r₂.val) * 128 + l.val
    = (k0_off3 k (BitVec.ofNat 32 r₁.val) (BitVec.ofNat 32 r₂.val) 0 + 128 * s.val) * 128
      + (k0_off3 k (BitVec.ofNat 32 r₁.val) (BitVec.ofNat 32 r₂.val) 1 + 1 * l.val)
  rw [e0, e1]; ring

theorem code8At_apply (k : Fin k0_t1_loop.trips) (r : Fin 4) (s : Fin 8) (l : Fin 128) :
    code8At arg2 X2 k r (ix5 0 0 0 s l) = x0 (ix5 8 0 ⟨4 * k.val + r.val, by have := trips4 k; omega⟩ s l) := by
  rw [← h2]
  unfold code8At
  rw [View.readAt_apply]
  refine congrArg (arg2.view.read (Elt Ideal) X2) (funext fun a => Fin.ext ?_)
  show k0_off1 k (BitVec.ofNat 32 r.val) a + 1 * ((ix5 0 0 0 s l : S1x1x1x8x128.Idx) a).val = _
  rw [k0_off1_eq]
  match a with
  | ⟨0, _⟩ => rfl
  | ⟨1, _⟩ => rfl
  | ⟨2, _⟩ => rfl
  | ⟨3, _⟩ => (show 0 + 1 * s.val = s.val; omega)
  | ⟨4, _⟩ => (show 0 + 1 * l.val = l.val; omega)

theorem code9At_apply (k : Fin k0_t1_loop.trips) (r : Fin 4) (s : Fin 8) (l : Fin 128) :
    code9At arg2 X2 k r (ix5 0 0 0 s l) = x0 (ix5 9 0 ⟨4 * k.val + r.val, by have := trips4 k; omega⟩ s l) := by
  rw [← h2]
  unfold code9At
  rw [View.readAt_apply]
  refine congrArg (arg2.view.read (Elt Ideal) X2) (funext fun a => Fin.ext ?_)
  show k0_off2 k (BitVec.ofNat 32 r.val) a + 1 * ((ix5 0 0 0 s l : S1x1x1x8x128.Idx) a).val = _
  rw [k0_off2_eq]
  match a with
  | ⟨0, _⟩ => rfl
  | ⟨1, _⟩ => rfl
  | ⟨2, _⟩ => rfl
  | ⟨3, _⟩ => (show 0 + 1 * s.val = s.val; omega)
  | ⟨4, _⟩ => (show 0 + 1 * l.val = l.val; omega)
end Loads

/-- One of the two tiles of a scaled and shifted product. -/
def tileC (c : Fin 2) (A : FVec Ideal S160x256 .f32) (sc bi : Vec Ideal S160x128 .f32) : FVec Ideal S1x160x128 .bf16 :=
  match c with | 0 => tile0 A sc bi | 1 => tile1 A sc bi

theorem tileC_apply (c : Fin 2) (A : FVec Ideal S160x256 .f32) (sc bi : Vec Ideal S160x128 .f32) (d : Fin 160) (l : Fin 128) :
    tileC c A sc bi (ix3 0 d l) = A (ix2 d ⟨128 * c.val + l.val, by omega⟩) * sc (ix2 d l) + bi (ix2 d l) := by
  fin_cases c
  · exact tile0_apply A sc bi d l
  · exact tile1_apply A sc bi d l

/-- A tile stored at batch `b` and columns `512 k + 256 h + 128 c` on is the block's value at those elements. -/
theorem tile_at (x0 : S10x1x16x8x128.Idx → BitVec 32) (W : Fin 40 → Fin 160 → EReal) (SC BI : Fin 160 → EReal)
    (k : Fin k0_t1_loop.trips) (b : Fin 8) (h c : Fin 2) (off : Fin 3 → ℕ) (inb : ∀ a, off a + S1x160x128.size a ≤ S8x160x2048.size a)
    (hoff : off = ![b.val, 0, 512 * k.val + 256 * h.val + 128 * c.val]) (T : FVec Ideal S1x160x128 .bf16)
    (hT : ∀ (d : Fin 160) (l : Fin 128), T (ix3 0 d l)
      = latent W d (fun m => x0 (ix5 m 0 ⟨4 * k.val + (2 * h.val + c.val), by have := trips4 k; omega⟩ b l)) * SC d + BI d)
    (x : S1x160x128.Idx) : T x = blockG x0 W SC BI ((Rect.unit (s := S8x160x2048) off S1x160x128.size inb).emb x) := by
  obtain ⟨u, d, l, rfl⟩ : ∃ (u : Fin 1) (d : Fin 160) (l : Fin 128), x = ix3 u d l := ⟨x 0, x 1, x 2, ValueIdx.eq_ix3 x⟩
  obtain rfl : u = 0 := Subsingleton.elim _ _
  subst hoff
  have hk := trips4 k
  have e : (Rect.unit (s := S8x160x2048) ![b.val, 0, 512 * k.val + 256 * h.val + 128 * c.val] S1x160x128.size inb).emb (ix3 0 d l)
      = ix3 b d ⟨512 * k.val + 256 * h.val + 128 * c.val + l.val, by omega⟩ := by
    funext a
    apply Fin.ext
    match a with
    | ⟨0, _⟩ => rfl
    | ⟨1, _⟩ => (show 0 + 1 * d.val = d.val; omega)
    | ⟨2, _⟩ => (show 512 * k.val + 256 * h.val + 128 * c.val + 1 * l.val = 512 * k.val + 256 * h.val + 128 * c.val + l.val; omega)
  rw [hT, e]
  unfold blockG
  show _ = latent W d _ * SC d + BI d
  have e1 : (512 * k.val + 256 * h.val + 128 * c.val + l.val) / 128 = 4 * k.val + (2 * h.val + c.val) := by omega
  have e2 : (512 * k.val + 256 * h.val + 128 * c.val + l.val) % 128 = l.val := by omega
  congr 3
  funext m
  congr 1
  congr 1
  · exact Fin.ext e1.symm
  · exact Fin.ext e2.symm

section Trip
variable (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole)
  (X2 : BufTy.Contents (Elt Ideal) arg2.view.ty) (X7 : BufTy.Contents (Elt Ideal) arg7.view.ty) (X8 : BufTy.Contents (Elt Ideal) arg8.view.ty) (X9 : BufTy.Contents (Elt Ideal) arg9.view.ty)
  {x0 : S10x1x16x8x128.Idx → BitVec 32} {W : Fin 40 → Fin 160 → EReal} {SC BI : Fin 160 → EReal}
  (h2 : arg2.view.read (Elt Ideal) X2 = x0)
  (h7 : ∀ (b : Fin 8) (h : Fin 2) (d : Fin 160) (k : Fin 128), arg7.view.read (Elt Ideal) X7 (ix4 b h d k) = expW W b h d k)
  (h8 : ∀ (d : Fin 160) (l : Fin 128), arg8.view.read (Elt Ideal) X8 (ix2 d l) = SC d)
  (h9 : ∀ (d : Fin 160) (l : Fin 128), arg9.view.read (Elt Ideal) X9 (ix2 d l) = BI d)
  (hC : ∀ j, (x0 j).toNat < 1000)
include h2 h7 h8 h9 hC

/-- **A store of a trip**: the tile made of the trip's loads is the block's value. -/
theorem store_at (k : Fin k0_t1_loop.trips) (b : Fin 8) (h c : Fin 2) (off : Fin 3 → ℕ) (inb : ∀ a, off a + S1x160x128.size a ≤ S8x160x2048.size a)
    (hoff : off = ![b.val, 0, 512 * k.val + 256 * h.val + 128 * c.val]) (T : FVec Ideal S1x160x128 .bf16)
    (inb7 : ∀ a, (![b.val, h.val, 0, 0] : Fin 4 → ℕ) a + S1x1x160x128.size a ≤ S8x2x160x128.size a)
    (hT : T = tileC c (acc (View.readAt (Elt Ideal) arg7.view (Rect.unit (s := S8x2x160x128) ![b.val, h.val, 0, 0] S1x1x160x128.size inb7).toLoadRect X7)
        (wide (rowsAt arg2 harg2 X2 k 0 b) (rowsAt arg2 harg2 X2 k 1 b) (rowsAt arg2 harg2 X2 k 2 b) (rowsAt arg2 harg2 X2 k 3 b))
        (k0_pay85 (narrow (code8At arg2 X2 k ⟨2 * h.val, by omega⟩) (code9At arg2 X2 k ⟨2 * h.val, by omega⟩))
          (narrow (code8At arg2 X2 k ⟨2 * h.val + 1, by omega⟩) (code9At arg2 X2 k ⟨2 * h.val + 1, by omega⟩))))
        (View.readAt (Elt Ideal) arg8.view (Rect.unit (s := S160x128) ![0, 0] S160x128.size inb_S160x128_S160x128_0_0).toLoadRect X8)
        (View.readAt (Elt Ideal) arg9.view (Rect.unit (s := S160x128) ![0, 0] S160x128.size inb_S160x128_S160x128_0_0).toLoadRect X9))
    (x : S1x160x128.Idx) : T x = blockG x0 W SC BI ((Rect.unit (s := S8x160x2048) off S1x160x128.size inb).emb x) := by
  have hk := trips4 k
  refine tile_at x0 W SC BI k b h c off inb hoff T (fun d l => ?_) x
  rw [hT, tileC_apply]
  have e8 : View.readAt (Elt Ideal) arg8.view (Rect.unit (s := S160x128) ![0, 0] S160x128.size inb_S160x128_S160x128_0_0).toLoadRect X8 (ix2 d l) = SC d := by
    rw [← h8 d l, View.readAt_apply]
    refine congrArg (arg8.view.read (Elt Ideal) X8) (funext fun a => Fin.ext ?_)
    match a with
    | ⟨0, _⟩ => (show 0 + 1 * d.val = d.val; omega)
    | ⟨1, _⟩ => (show 0 + 1 * l.val = l.val; omega)
  have e9 : View.readAt (Elt Ideal) arg9.view (Rect.unit (s := S160x128) ![0, 0] S160x128.size inb_S160x128_S160x128_0_0).toLoadRect X9 (ix2 d l) = BI d := by
    rw [← h9 d l, View.readAt_apply]
    refine congrArg (arg9.view.read (Elt Ideal) X9) (funext fun a => Fin.ext ?_)
    match a with
    | ⟨0, _⟩ => (show 0 + 1 * d.val = d.val; omega)
    | ⟨1, _⟩ => (show 0 + 1 * l.val = l.val; omega)
  rw [e8, e9]
  congr 2
  refine acc_apply _ _ _ _ _ _ _ _ _ b h W (fun m t l => x0 (ix5 m 0 ⟨4 * k.val + t.val, by omega⟩ b l)) ?_
    (fun s l => rowsAt_apply harg2 h2 k 0 b s l) (fun s l => rowsAt_apply harg2 h2 k 1 b s l)
    (fun s l => rowsAt_apply harg2 h2 k 2 b s l) (fun s l => rowsAt_apply harg2 h2 k 3 b s l)
    (fun l => code8At_apply h2 k _ b l) (fun l => code9At_apply h2 k _ b l)
    (fun l => code8At_apply h2 k _ b l) (fun l => code9At_apply h2 k _ b l) (fun _ _ _ => hC _) d c l
  intro d' k'
  rw [← h7 b h d' k', View.readAt_apply]
  refine congrArg (arg7.view.read (Elt Ideal) X7) (funext fun a => Fin.ext ?_)
  match a with
  | ⟨0, _⟩ => rfl
  | ⟨1, _⟩ => rfl
  | ⟨2, _⟩ => (show 0 + 1 * d'.val = d'.val; omega)
  | ⟨3, _⟩ => (show 0 + 1 * k'.val = k'.val; omega)

/-- **The stores of one trip**: each writes the block's value. -/
theorem trip_pieces (dev : Dev nD) (i : grid0.Coords) (k : Fin k0_t1_loop.trips) :
    ∀ pc ∈ tripL_k0_t1 (F := Ideal) Variants.none dev none i arg2 harg2 arg3 harg3 arg4 harg4 arg5 harg5 arg6 harg6 arg7 harg7 arg8 harg8 arg9 harg9 X2 X7 X8 X9 k,
      ∀ x, pc.2 x = blockG x0 W SC BI (pc.1.emb x) := by
  unfold tripL_k0_t1 trip_k0_t1
  dsimp only
  simp only [List.forall_mem_cons]
  refine ⟨store_at arg2 harg2 arg7 arg8 arg9 X2 X7 X8 X9 h2 h7 h8 h9 hC k 7 1 1 _ _ (k0_off11_eq k 1 1) _ inb_S8x2x160x128_S1x1x160x128_7_1_0_0 rfl,
    store_at arg2 harg2 arg7 arg8 arg9 X2 X7 X8 X9 h2 h7 h8 h9 hC k 7 1 0 _ _ (k0_off11_eq k 1 0) _ inb_S8x2x160x128_S1x1x160x128_7_1_0_0 rfl,
    store_at arg2 harg2 arg7 arg8 arg9 X2 X7 X8 X9 h2 h7 h8 h9 hC k 7 0 1 _ _ (k0_off11_eq k 0 1) _ inb_S8x2x160x128_S1x1x160x128_7_0_0_0 rfl,
    store_at arg2 harg2 arg7 arg8 arg9 X2 X7 X8 X9 h2 h7 h8 h9 hC k 7 0 0 _ _ (k0_off11_eq k 0 0) _ inb_S8x2x160x128_S1x1x160x128_7_0_0_0 rfl,
    store_at arg2 harg2 arg7 arg8 arg9 X2 X7 X8 X9 h2 h7 h8 h9 hC k 6 1 1 _ _ (k0_off10_eq k 1 1) _ inb_S8x2x160x128_S1x1x160x128_6_1_0_0 rfl,
    store_at arg2 harg2 arg7 arg8 arg9 X2 X7 X8 X9 h2 h7 h8 h9 hC k 6 1 0 _ _ (k0_off10_eq k 1 0) _ inb_S8x2x160x128_S1x1x160x128_6_1_0_0 rfl,
    store_at arg2 harg2 arg7 arg8 arg9 X2 X7 X8 X9 h2 h7 h8 h9 hC k 6 0 1 _ _ (k0_off10_eq k 0 1) _ inb_S8x2x160x128_S1x1x160x128_6_0_0_0 rfl,
    store_at arg2 harg2 arg7 arg8 arg9 X2 X7 X8 X9 h2 h7 h8 h9 hC k 6 0 0 _ _ (k0_off10_eq k 0 0) _ inb_S8x2x160x128_S1x1x160x128_6_0_0_0 rfl,
    store_at arg2 harg2 arg7 arg8 arg9 X2 X7 X8 X9 h2 h7 h8 h9 hC k 5 1 1 _ _ (k0_off9_eq k 1 1) _ inb_S8x2x160x128_S1x1x160x128_5_1_0_0 rfl,
    store_at arg2 harg2 arg7 arg8 arg9 X2 X7 X8 X9 h2 h7 h8 h9 hC k 5 1 0 _ _ (k0_off9_eq k 1 0) _ inb_S8x2x160x128_S1x1x160x128_5_1_0_0 rfl,
    store_at arg2 harg2 arg7 arg8 arg9 X2 X7 X8 X9 h2 h7 h8 h9 hC k 5 0 1 _ _ (k0_off9_eq k 0 1) _ inb_S8x2x160x128_S1x1x160x128_5_0_0_0 rfl,
    store_at arg2 harg2 arg7 arg8 arg9 X2 X7 X8 X9 h2 h7 h8 h9 hC k 5 0 0 _ _ (k0_off9_eq k 0 0) _ inb_S8x2x160x128_S1x1x160x128_5_0_0_0 rfl,
    store_at arg2 harg2 arg7 arg8 arg9 X2 X7 X8 X9 h2 h7 h8 h9 hC k 4 1 1 _ _ (k0_off8_eq k 1 1) _ inb_S8x2x160x128_S1x1x160x128_4_1_0_0 rfl,
    store_at arg2 harg2 arg7 arg8 arg9 X2 X7 X8 X9 h2 h7 h8 h9 hC k 4 1 0 _ _ (k0_off8_eq k 1 0) _ inb_S8x2x160x128_S1x1x160x128_4_1_0_0 rfl,
    store_at arg2 harg2 arg7 arg8 arg9 X2 X7 X8 X9 h2 h7 h8 h9 hC k 4 0 1 _ _ (k0_off8_eq k 0 1) _ inb_S8x2x160x128_S1x1x160x128_4_0_0_0 rfl,
    store_at arg2 harg2 arg7 arg8 arg9 X2 X7 X8 X9 h2 h7 h8 h9 hC k 4 0 0 _ _ (k0_off8_eq k 0 0) _ inb_S8x2x160x128_S1x1x160x128_4_0_0_0 rfl,
    store_at arg2 harg2 arg7 arg8 arg9 X2 X7 X8 X9 h2 h7 h8 h9 hC k 3 1 1 _ _ (k0_off7_eq k 1 1) _ inb_S8x2x160x128_S1x1x160x128_3_1_0_0 rfl,
    store_at arg2 harg2 arg7 arg8 arg9 X2 X7 X8 X9 h2 h7 h8 h9 hC k 3 1 0 _ _ (k0_off7_eq k 1 0) _ inb_S8x2x160x128_S1x1x160x128_3_1_0_0 rfl,
    store_at arg2 harg2 arg7 arg8 arg9 X2 X7 X8 X9 h2 h7 h8 h9 hC k 3 0 1 _ _ (k0_off7_eq k 0 1) _ inb_S8x2x160x128_S1x1x160x128_3_0_0_0 rfl,
    store_at arg2 harg2 arg7 arg8 arg9 X2 X7 X8 X9 h2 h7 h8 h9 hC k 3 0 0 _ _ (k0_off7_eq k 0 0) _ inb_S8x2x160x128_S1x1x160x128_3_0_0_0 rfl,
    store_at arg2 harg2 arg7 arg8 arg9 X2 X7 X8 X9 h2 h7 h8 h9 hC k 2 1 1 _ _ (k0_off6_eq k 1 1) _ inb_S8x2x160x128_S1x1x160x128_2_1_0_0 rfl,
    store_at arg2 harg2 arg7 arg8 arg9 X2 X7 X8 X9 h2 h7 h8 h9 hC k 2 1 0 _ _ (k0_off6_eq k 1 0) _ inb_S8x2x160x128_S1x1x160x128_2_1_0_0 rfl,
    store_at arg2 harg2 arg7 arg8 arg9 X2 X7 X8 X9 h2 h7 h8 h9 hC k 2 0 1 _ _ (k0_off6_eq k 0 1) _ inb_S8x2x160x128_S1x1x160x128_2_0_0_0 rfl,
    store_at arg2 harg2 arg7 arg8 arg9 X2 X7 X8 X9 h2 h7 h8 h9 hC k 2 0 0 _ _ (k0_off6_eq k 0 0) _ inb_S8x2x160x128_S1x1x160x128_2_0_0_0 rfl,
    store_at arg2 harg2 arg7 arg8 arg9 X2 X7 X8 X9 h2 h7 h8 h9 hC k 1 1 1 _ _ (k0_off5_eq k 1 1) _ inb_S8x2x160x128_S1x1x160x128_1_1_0_0 rfl,
    store_at arg2 harg2 arg7 arg8 arg9 X2 X7 X8 X9 h2 h7 h8 h9 hC k 1 1 0 _ _ (k0_off5_eq k 1 0) _ inb_S8x2x160x128_S1x1x160x128_1_1_0_0 rfl,
    store_at arg2 harg2 arg7 arg8 arg9 X2 X7 X8 X9 h2 h7 h8 h9 hC k 1 0 1 _ _ (k0_off5_eq k 0 1) _ inb_S8x2x160x128_S1x1x160x128_1_0_0_0 rfl,
    store_at arg2 harg2 arg7 arg8 arg9 X2 X7 X8 X9 h2 h7 h8 h9 hC k 1 0 0 _ _ (k0_off5_eq k 0 0) _ inb_S8x2x160x128_S1x1x160x128_1_0_0_0 rfl,
    store_at arg2 harg2 arg7 arg8 arg9 X2 X7 X8 X9 h2 h7 h8 h9 hC k 0 1 1 _ _ (k0_off4_eq k 1 1) _ inb_S8x2x160x128_S1x1x160x128_0_1_0_0 rfl,
    store_at arg2 harg2 arg7 arg8 arg9 X2 X7 X8 X9 h2 h7 h8 h9 hC k 0 1 0 _ _ (k0_off4_eq k 1 0) _ inb_S8x2x160x128_S1x1x160x128_0_1_0_0 rfl,
    store_at arg2 harg2 arg7 arg8 arg9 X2 X7 X8 X9 h2 h7 h8 h9 hC k 0 0 1 _ _ (k0_off4_eq k 0 1) _ inb_S8x2x160x128_S1x1x160x128_0_0_0_0 rfl,
    store_at arg2 harg2 arg7 arg8 arg9 X2 X7 X8 X9 h2 h7 h8 h9 hC k 0 0 0 _ _ (k0_off4_eq k 0 0) _ inb_S8x2x160x128_S1x1x160x128_0_0_0_0 rfl, fun _ h => absurd h (List.not_mem_nil)⟩
end Trip
end Cert.KernelIdeal.Hand
end
-- ==== Proof.KernelIdeal.Expand.lean ====
module

public import proofs.«01_k».proof.Proof.KernelIdeal.Trip
public import proofs.«01_k».proof.Proof.KernelIdeal.Frame
@[expose] public section
set_option maxRecDepth 16384
noncomputable section
namespace Cert.KernelIdeal.Hand
open Cert.KernelIdeal.Gen
open Idealize.ShloMosaic hiding ix2 ix3 ix4 ix5
open Idealize.ShloMosaic.TcCoe Idealize.ShloMosaic.Tactic
open Idealize.ShloMosaic.ValueIdx

/-! # The expanded weights

The first grid point multiplies the weights by sixteen 0/1 selection matrices, one for each batch row and half, and stores
the products; every point reads them. -/

/-- The row of the weights that column `k` of the expanded weights takes, as the kernel computes it. -/
def rowWord (k : BitVec 32) : BitVec 32 :=
  IntOp.addi (IntOp.muli (Scalar.select (IntOp.cmpi .slt k 64#32) (IntOp.andi (IntOp.shrsi .vector k 1#32) 7#32)
    (IntOp.addi 8#32 (IntOp.andi k 1#32))) 4#32) (IntOp.andi (IntOp.shrsi .vector k 4#32) 3#32)

/-- Whether column `k` is nonzero at batch row `b` and half `h`, as the kernel computes it. -/
def liveBit (b h k : BitVec 32) : BitVec 1 :=
  IntOp.cmpi .eq (Scalar.select (IntOp.cmpi .slt k 64#32) (IntOp.andi k 1#32) (IntOp.andi (IntOp.shrsi .vector k 1#32) 7#32))
    (Scalar.select (IntOp.cmpi .slt k 64#32) h b)

/-- The row of the weights that column `k` takes. -/
def rowN (k : Fin 128) : Fin 40 :=
  if k.val < 64 then ⟨4 * (k.val / 2 % 8) + k.val / 16 % 4, by omega⟩ else ⟨4 * (8 + k.val % 2) + k.val / 16 % 4, by omega⟩

/-- Whether column `k` is nonzero at batch row `b` and half `h`. -/
def liveN (b : Fin 8) (h : Fin 2) (k : Fin 128) : Bool :=
  if k.val < 64 then k.val % 2 == h.val else k.val / 2 % 8 == b.val

theorem rowWord_eq : ∀ k : Fin 128, rowWord (BitVec.ofNat 32 k.val) = BitVec.ofNat 32 (rowN k).val := by decide +kernel

theorem liveBit_eq : ∀ (b : Fin 8) (h : Fin 2) (k : Fin 128),
    liveBit (BitVec.ofNat 32 b.val) (BitVec.ofNat 32 h.val) (BitVec.ofNat 32 k.val) = BitVec.ofBool (liveN b h k) := by decide +kernel

/-- The selected weights at a column, in terms of the row and whether it is nonzero. -/
theorem expW_eq (W : Fin 40 → Fin 160 → EReal) (b : Fin 8) (h : Fin 2) (d : Fin 160) (k : Fin 128) :
    expW W b h d k = if liveN b h k = true then W (rowN k) d else 0 := by
  unfold expW liveN rowN
  by_cases hk : k.val < 64
  · simp only [hk, if_true, beq_iff_eq]
  · simp only [hk, if_false, beq_iff_eq]

/-- The 0/1 selection matrix, as the kernel computes it. -/
def pick (b h : BitVec 32) : FVec Ideal S40x128 .bf16 :=
  have v8 : IVec S40x128 32 := iota .tc S40x128 32 [0] iota_S40x128_d0_w32
  have v9 : IVec S40x128 32 := iota .tc S40x128 32 [1] iota_S40x128_d1_w32
  have v11 : IVec S40x128 32 := shrsi v9 (broadcast S40x128 4#32)
  have v13 : IVec S40x128 32 := andi v11 (broadcast S40x128 3#32)
  have v15 : IVec S40x128 32 := shrsi v9 (broadcast S40x128 1#32)
  have v17 : IVec S40x128 32 := andi v15 (broadcast S40x128 7#32)
  have v19 : IVec S40x128 32 := andi v9 (broadcast S40x128 1#32)
  have v21 : IVec S40x128 1 := cmpi .slt v9 (broadcast S40x128 64#32)
  have v23 : IVec S40x128 32 := addi (broadcast S40x128 8#32) v19
  have v24 : IVec S40x128 32 := select v21 v17 v23
  have v25 : IVec S40x128 32 := select v21 v19 v17
  have v28 : IVec S40x128 32 := select v21 (broadcast S40x128 h) (broadcast S40x128 b)
  have v29 : IVec S40x128 1 := cmpi .eq v25 v28
  have v31 : IVec S40x128 32 := muli v24 (broadcast S40x128 4#32)
  have v32 : IVec S40x128 32 := addi v31 v13
  have v33 : IVec S40x128 1 := cmpi .eq v8 v32
  have v34 : IVec S40x128 1 := andi v29 v33
  have v35 : IVec S40x128 32 := extui 32 v34 natLt_1_32
  truncf .bf16 (sitofp (F := Ideal) .f32 v35) bitsLt_bf16_f32

/-- The expanded weights of one batch row and half, as the kernel computes them. -/
def expand (w : FVec Ideal S40x160 .bf16) (b h : BitVec 32) : FVec Ideal S1x1x160x128 .bf16 :=
  shapeCast S1x1x160x128 (truncf .bf16 (matmul dot_S40x160_S40x128_S160x128_0_0_1_1_n_n none w (pick b h)
    (constant S160x128 .f32 0x00000000#32)) bitsLt_bf16_f32) shapeCasts_S160x128_S1x1x160x128

theorem pick_apply (b : Fin 8) (h : Fin 2) (r : Fin 40) (k : Fin 128) :
    pick (BitVec.ofNat 32 b.val) (BitVec.ofNat 32 h.val) (ix2 r k) = if liveN b h k = true ∧ r = rowN k then 1 else 0 := by
  have e : pick (BitVec.ofNat 32 b.val) (BitVec.ofNat 32 h.val) (ix2 r k)
      = (((IntOp.andi (liveBit (BitVec.ofNat 32 b.val) (BitVec.ofNat 32 h.val) (BitVec.ofNat 32 (0 * 128 + k.val)))
          (IntOp.cmpi .eq (BitVec.ofNat 32 (0 * 40 + r.val)) (rowWord (BitVec.ofNat 32 (0 * 128 + k.val))))).setWidth 32).toInt : ℝ) := rfl
  rw [e]
  simp only [Nat.zero_mul, Nat.zero_add]
  rw [liveBit_eq, rowWord_eq]
  have e2 : IntOp.cmpi .eq (BitVec.ofNat 32 r.val) (BitVec.ofNat 32 (rowN k).val) = BitVec.ofBool (decide (r = rowN k)) := by
    show BitVec.ofBool (BitVec.ofNat 32 r.val == BitVec.ofNat 32 (rowN k).val) = _
    congr 1
    rw [Bool.eq_iff_iff, beq_iff_eq, decide_eq_true_iff]
    constructor
    · intro hh
      have := congrArg BitVec.toNat hh
      rw [BitVec.toNat_ofNat, BitVec.toNat_ofNat, Nat.mod_eq_of_lt (by omega), Nat.mod_eq_of_lt (by omega)] at this
      exact Fin.ext this
    · intro hh; rw [hh]
  rw [e2]
  by_cases h1 : liveN b h k = true
  · by_cases h2 : r = rowN k
    · simp [h1, h2, IntOp.andi]
    · simp [h1, h2, IntOp.andi]
  · rw [Bool.not_eq_true] at h1
    simp [h1, IntOp.andi]

/-- **The expanded weights at an index**: the weights of the row the column takes, or zero. -/
theorem expand_apply (w : FVec Ideal S40x160 .bf16) (b : Fin 8) (h : Fin 2) (d : Fin 160) (k : Fin 128) :
    expand w (BitVec.ofNat 32 b.val) (BitVec.ofNat 32 h.val) (ix4 0 0 d k) = expW (fun r d => w (ix2 r d)) b h d k := by
  have e0 : expand w (BitVec.ofNat 32 b.val) (BitVec.ofNat 32 h.val) (ix4 0 0 d k)
      = matmul dot_S40x160_S40x128_S160x128_0_0_1_1_n_n none w (pick (BitVec.ofNat 32 b.val) (BitVec.ofNat 32 h.val))
          (constant S160x128 .f32 0x00000000#32) (ix2 d k) := by
    unfold expand
    refine (shapeCast_apply _ _ _ (ix2 d k) ?_).trans rfl
    rw [Shape.rowMajor_val_four, Shape.rowMajor_val_two]
    simp
  rw [e0]
  refine (Ideal.matmul_apply₁_of dot_S40x160_S40x128_S160x128_0_0_1_1_n_n (a := 0) rfl (K := 40) rfl w
    (pick (BitVec.ofNat 32 b.val) (BitVec.ofNat 32 h.val)) (constant (F := Ideal) S160x128 .f32 0x00000000#32) (ix2 d k)
    (fun r => ix2 r d) (fun r => ix2 r k) (fun r => ?_) (fun r => ?_)).trans ?_
  · funext a; apply Fin.ext
    match a with
    | ⟨0, _⟩ => rfl
    | ⟨1, _⟩ => rfl
  · funext a; apply Fin.ext
    match a with
    | ⟨0, _⟩ => rfl
    | ⟨1, _⟩ => rfl
  · rw [show (constant S160x128 .f32 0x00000000#32 : FVec Ideal S160x128 .f32) (ix2 d k) = 0 by
      show Ideal.ofBits .f32 0x00000000#32 = 0
      simp [Ideal.ofBits, Ideal.ieee], zero_add, expW_eq]
    simp only [pick_apply]
    by_cases h1 : liveN b h k = true
    · simp only [h1, true_and, if_true, mul_ite, mul_one, mul_zero, Finset.sum_ite_eq', Finset.mem_univ]
    · rw [if_neg h1]
      exact Finset.sum_eq_zero fun r _ => by rw [if_neg fun hh => h1 hh.1, mul_zero]
end Cert.KernelIdeal.Hand
end
-- ==== Proof.KernelIdeal.Point.lean ====
module

public import proofs.«01_k».proof.Proof.KernelIdeal.Expand
public import proofs.«01_k».proof.Proof.KernelIdeal.Frame
public import Idealize.ShloMosaic.Lib.ValueLayout
public import Idealize.ShloMosaic.Lib.WholeRead
@[expose] public section
set_option maxRecDepth 16384
noncomputable section
namespace Cert.KernelIdeal.Hand
open Cert.KernelIdeal.Gen
open Idealize.ShloMosaic hiding ix2 ix3 ix4 ix5
open Idealize.ShloMosaic.TcCoe Idealize.ShloMosaic.Tactic
open Idealize.ShloMosaic.ValueIdx

/-! # One grid point: what it leaves in the output's block and in the carried scratch -/

/-- The expanded weights as an array over batch row, half, output row and column. -/
def expG (W : Fin 40 → Fin 160 → EReal) (y : S8x2x160x128.Idx) : EReal := expW W (y 0) (y 1) (y 2) (y 3)

theorem expand_at (w : FVec Ideal S40x160 .bf16) (W : Fin 40 → Fin 160 → EReal) (hw : ∀ r d, w (ix2 r d) = W r d) (b : Fin 8) (h : Fin 2)
    (inb : ∀ a, (![b.val, h.val, 0, 0] : Fin 4 → ℕ) a + S1x1x160x128.size a ≤ S8x2x160x128.size a)
    (T : FVec Ideal S1x1x160x128 .bf16) (hT : T = expand w (BitVec.ofNat 32 b.val) (BitVec.ofNat 32 h.val)) (x : S1x1x160x128.Idx) :
    T x = expG W ((Rect.unit (s := S8x2x160x128) ![b.val, h.val, 0, 0] S1x1x160x128.size inb).emb x) := by
  obtain ⟨u, v, d, k, rfl⟩ : ∃ (u v : Fin 1) (d : Fin 160) (k : Fin 128), x = ix4 u v d k := ⟨x 0, x 1, x 2, x 3, ValueIdx.eq_ix4 x⟩
  obtain rfl : u = 0 := Subsingleton.elim _ _
  obtain rfl : v = 0 := Subsingleton.elim _ _
  have e : (Rect.unit (s := S8x2x160x128) ![b.val, h.val, 0, 0] S1x1x160x128.size inb).emb (ix4 0 0 d k) = ix4 b h d k := by
    funext a
    apply Fin.ext
    match a with
    | ⟨0, _⟩ => rfl
    | ⟨1, _⟩ => rfl
    | ⟨2, _⟩ => (show 0 + 1 * d.val = d.val; omega)
    | ⟨3, _⟩ => (show 0 + 1 * k.val = k.val; omega)
  obtain rfl : (fun r d => w (ix2 r d)) = W := by funext r d; exact hw r d
  rw [hT, expand_apply, e]
  rfl

/-- A row of 160 values turned into a column and repeated, at an index. -/
theorem column_apply (v : Vec Ideal S1x160 .f32) (d : Fin 160) (l : Fin 128) : k0_pay53 (F := Ideal) v (ix2 d l) = v (ix2 0 d) := by
  unfold k0_pay53
  dsimp only
  refine (shapeCast_apply _ _ _ (ix2 d l) rfl).trans ?_
  refine (transpose_ix2_apply (a := 128) (b := 160) _ _ d l).trans ?_
  refine (broadcastTo_apply _ _ _ (ix2 0 d) fun a => ?_).trans ?_
  · match a with
    | ⟨0, _⟩ => rfl
    | ⟨1, _⟩ => rfl
  · refine (shapeCast_apply _ _ _ (ix2 0 d) rfl).trans ?_
    exact shapeCast_apply _ _ _ (ix2 0 d) rfl

section Point
variable (c : Dev nD) (i : grid0.Coords) (arg2 : Memref sig .tc .vmem S10x1x16x8x128 .i32) (harg2 : arg2.IsWhole) (arg3 : Memref sig .tc .vmem S40x160 .fp8e4m3) (harg3 : arg3.IsWhole) (arg4 : Memref sig .tc .vmem S1x160 .f32) (harg4 : arg4.IsWhole) (arg5 : Memref sig .tc .vmem S1x160 .f32) (harg5 : arg5.IsWhole) (arg6 : Memref sig .tc .vmem S8x160x2048 .bf16) (harg6 : arg6.IsWhole) (arg7 : Memref sig .tc .vmem S8x2x160x128 .bf16) (harg7 : arg7.IsWhole) (arg8 : Memref sig .tc .vmem S160x128 .f32) (harg8 : arg8.IsWhole) (arg9 : Memref sig .tc .vmem S160x128 .f32) (harg9 : arg9.IsWhole)

theorem loop_pieces (X2 : BufTy.Contents (Elt Ideal) arg2.view.ty) (X7 : BufTy.Contents (Elt Ideal) arg7.view.ty) (X8 : BufTy.Contents (Elt Ideal) arg8.view.ty) (X9 : BufTy.Contents (Elt Ideal) arg9.view.ty)
    {x0 : S10x1x16x8x128.Idx → BitVec 32} {W : Fin 40 → Fin 160 → EReal} {SC BI : Fin 160 → EReal}
    (h2 : arg2.view.read (Elt Ideal) X2 = x0)
    (h7 : ∀ (b : Fin 8) (h : Fin 2) (d : Fin 160) (k : Fin 128), arg7.view.read (Elt Ideal) X7 (ix4 b h d k) = expW W b h d k)
    (h8 : ∀ (d : Fin 160) (l : Fin 128), arg8.view.read (Elt Ideal) X8 (ix2 d l) = SC d)
    (h9 : ∀ (d : Fin 160) (l : Fin 128), arg9.view.read (Elt Ideal) X9 (ix2 d l) = BI d)
    (hC : ∀ j, (x0 j).toNat < 1000) (n : ℕ) (hn : n ≤ k0_t1_loop.trips) :
    ∀ pc ∈ pb_k0_t1 (F := Ideal) Variants.none c none i arg2 harg2 arg3 harg3 arg4 harg4 arg5 harg5 arg6 harg6 arg7 harg7 arg8 harg8 arg9 harg9 X2 X7 X8 X9 n, ∀ x, pc.2 x = blockG x0 W SC BI (pc.1.emb x) := by
  induction n with
  | zero => intro pc hp; exact absurd hp (by rw [pb_k0_t1.eq_1]; exact List.not_mem_nil)
  | succ n ih =>
    intro pc hp
    rw [pb_k0_t1_succ (F := Ideal) Variants.none c none i arg2 harg2 arg3 harg3 arg4 harg4 arg5 harg5 arg6 harg6 arg7 harg7 arg8 harg8 arg9 harg9 X2 X7 X8 X9 ⟨n, hn⟩] at hp
    rcases List.mem_append.mp hp with hp | hp
    · exact trip_pieces arg2 harg2 arg3 harg3 arg4 harg4 arg5 harg5 arg6 harg6 arg7 harg7 arg8 harg8 arg9 harg9 X2 X7 X8 X9 h2 h7 h8 h9 hC c i ⟨n, hn⟩ pc hp
    · exact ih (by omega) pc hp

/-- **A later point's block**: the block function at what the scratch holds. -/
theorem out_B (hc0 : ¬cond0_0 i)
    (x0 : Vec Ideal S10x1x16x8x128 .i32) (x1 : Vec Ideal S40x160 .fp8e4m3) (x2 : Vec Ideal S1x160 .f32) (x3 : Vec Ideal S1x160 .f32) (xs0 : Vec Ideal S8x2x160x128 .bf16) (xs1 : Vec Ideal S160x128 .f32) (xs2 : Vec Ideal S160x128 .f32)
    {W : Fin 40 → Fin 160 → EReal} {SC BI : Fin 160 → EReal}
    (h7 : ∀ (b : Fin 8) (h : Fin 2) (d : Fin 160) (k : Fin 128), xs0 (ix4 b h d k) = expW W b h d k)
    (h8 : ∀ (d : Fin 160) (l : Fin 128), xs1 (ix2 d l) = SC d) (h9 : ∀ (d : Fin 160) (l : Fin 128), xs2 (ix2 d l) = BI d)
    (hC : ∀ j, (x0 j).toNat < 1000) (y : S8x160x2048.Idx) :
    out0_B_4 (F := Ideal) c i arg2 harg2 arg3 harg3 arg4 harg4 arg5 harg5 arg6 harg6 arg7 harg7 arg8 harg8 arg9 harg9 hc0 x0 x1 x2 x3 xs0 xs1 xs2 y = blockG x0 W SC BI y := by
  unfold out0_B_4
  refine View.read_writes_apply_of_pieces _ _ (blockG x0 W SC BI) _ ?_ y (cover0_B_4 (F := Ideal) c i arg2 harg2 arg3 harg3 arg4 harg4 arg5 harg5 arg6 harg6 arg7 harg7 arg8 harg8 arg9 harg9 hc0 x0 x1 x2 x3 xs0 xs1 xs2 y)
  unfold kernelRun0_B
  dsimp only
  refine loop_pieces c i arg2 harg2 arg3 harg3 arg4 harg4 arg5 harg5 arg6 harg6 arg7 harg7 arg8 harg8 arg9 harg9 _ _ _ _ (harg2.read_unread x0) (fun b h d k => ?_) (fun d l => ?_) (fun d l => ?_) hC _ (by decide)
  · rw [harg7.read_unread]; exact h7 b h d k
  · rw [harg8.read_unread]; exact h8 d l
  · rw [harg9.read_unread]; exact h9 d l

section First
variable (hc0 : cond0_0 i) (x0 : Vec Ideal S10x1x16x8x128 .i32) (x1 : Vec Ideal S40x160 .fp8e4m3) (x2 : Vec Ideal S1x160 .f32) (x3 : Vec Ideal S1x160 .f32)

theorem weights_load (r : Fin 40) (d : Fin 160) : kernelRun0_A.sl.r (F := Ideal) c arg3 harg3 x1 (ix2 r d) = x1 (ix2 r d) := by
  show View.readAt (Elt Ideal) arg3.view (Rect.unit (s := S40x160) ![0, 0] S40x160.size inb_S40x160_S40x160_0_0).toLoadRect (harg3.unread x1) (ix2 r d) = _
  rw [Memref.IsWhole.readAt_unread]
  refine congrArg x1 (funext fun a => Fin.ext ?_)
  match a with
  | ⟨0, _⟩ => (show 0 + 1 * r.val = r.val; omega)
  | ⟨1, _⟩ => (show 0 + 1 * d.val = d.val; omega)

/-- What the first point writes into the weights' scratch. -/
theorem first_pieces7 : ∀ pc ∈ (kernelRun0_A (F := Ideal) c i arg2 harg2 arg3 harg3 arg4 harg4 arg5 harg5 arg6 harg6 arg7 harg7 arg8 harg8 arg9 harg9 hc0 x0 x1 x2 x3).2.1,
    ∀ x, pc.2 x = expG (fun r d => x1 (ix2 r d)) (pc.1.emb x) := by
  unfold kernelRun0_A
  dsimp only
  unfold kernelRun0_A.sl.HS0_16
  simp only [List.forall_mem_cons]
  refine ⟨expand_at _ _ (weights_load c arg3 harg3 x1) 7 1 inb_S8x2x160x128_S1x1x160x128_7_1_0_0 _ rfl,
    expand_at _ _ (weights_load c arg3 harg3 x1) 7 0 inb_S8x2x160x128_S1x1x160x128_7_0_0_0 _ rfl,
    expand_at _ _ (weights_load c arg3 harg3 x1) 6 1 inb_S8x2x160x128_S1x1x160x128_6_1_0_0 _ rfl,
    expand_at _ _ (weights_load c arg3 harg3 x1) 6 0 inb_S8x2x160x128_S1x1x160x128_6_0_0_0 _ rfl,
    expand_at _ _ (weights_load c arg3 harg3 x1) 5 1 inb_S8x2x160x128_S1x1x160x128_5_1_0_0 _ rfl,
    expand_at _ _ (weights_load c arg3 harg3 x1) 5 0 inb_S8x2x160x128_S1x1x160x128_5_0_0_0 _ rfl,
    expand_at _ _ (weights_load c arg3 harg3 x1) 4 1 inb_S8x2x160x128_S1x1x160x128_4_1_0_0 _ rfl,
    expand_at _ _ (weights_load c arg3 harg3 x1) 4 0 inb_S8x2x160x128_S1x1x160x128_4_0_0_0 _ rfl,
    expand_at _ _ (weights_load c arg3 harg3 x1) 3 1 inb_S8x2x160x128_S1x1x160x128_3_1_0_0 _ rfl,
    expand_at _ _ (weights_load c arg3 harg3 x1) 3 0 inb_S8x2x160x128_S1x1x160x128_3_0_0_0 _ rfl,
    expand_at _ _ (weights_load c arg3 harg3 x1) 2 1 inb_S8x2x160x128_S1x1x160x128_2_1_0_0 _ rfl,
    expand_at _ _ (weights_load c arg3 harg3 x1) 2 0 inb_S8x2x160x128_S1x1x160x128_2_0_0_0 _ rfl,
    expand_at _ _ (weights_load c arg3 harg3 x1) 1 1 inb_S8x2x160x128_S1x1x160x128_1_1_0_0 _ rfl,
    expand_at _ _ (weights_load c arg3 harg3 x1) 1 0 inb_S8x2x160x128_S1x1x160x128_1_0_0_0 _ rfl,
    expand_at _ _ (weights_load c arg3 harg3 x1) 0 1 inb_S8x2x160x128_S1x1x160x128_0_1_0_0 _ rfl,
    expand_at _ _ (weights_load c arg3 harg3 x1) 0 0 inb_S8x2x160x128_S1x1x160x128_0_0_0_0 _ rfl, fun _ h => absurd h (List.not_mem_nil)⟩

theorem first_pieces8 : ∀ pc ∈ (kernelRun0_A (F := Ideal) c i arg2 harg2 arg3 harg3 arg4 harg4 arg5 harg5 arg6 harg6 arg7 harg7 arg8 harg8 arg9 harg9 hc0 x0 x1 x2 x3).2.2.1,
    ∀ x, pc.2 x = x2 (ix2 0 (pc.1.emb x 0)) := by
  unfold kernelRun0_A
  dsimp only
  unfold kernelRun0_A.sl.HS1_1
  simp only [List.forall_mem_cons]
  refine ⟨fun x => ?_, fun _ h => absurd h (List.not_mem_nil)⟩
  obtain ⟨d, l, rfl⟩ : ∃ (d : Fin 160) (l : Fin 128), x = ix2 d l := ⟨x 0, x 1, ValueIdx.eq_ix2 x⟩
  refine (column_apply _ d l).trans ?_
  rw [Memref.IsWhole.readAt_unread]
  refine congrArg x2 (funext fun a => Fin.ext ?_)
  match a with
  | ⟨0, _⟩ => rfl
  | ⟨1, _⟩ => rfl

theorem first_pieces9 : ∀ pc ∈ (kernelRun0_A (F := Ideal) c i arg2 harg2 arg3 harg3 arg4 harg4 arg5 harg5 arg6 harg6 arg7 harg7 arg8 harg8 arg9 harg9 hc0 x0 x1 x2 x3).2.2.2.1,
    ∀ x, pc.2 x = x3 (ix2 0 (pc.1.emb x 0)) := by
  unfold kernelRun0_A
  dsimp only
  unfold kernelRun0_A.sl.HS2_1
  simp only [List.forall_mem_cons]
  refine ⟨fun x => ?_, fun _ h => absurd h (List.not_mem_nil)⟩
  obtain ⟨d, l, rfl⟩ : ∃ (d : Fin 160) (l : Fin 128), x = ix2 d l := ⟨x 0, x 1, ValueIdx.eq_ix2 x⟩
  refine Eq.trans (b := k0_pay53 (F := Ideal) (View.readAt (Elt Ideal) arg5.view (Rect.unit (s := S1x160) ![0, 0] S1x160.size inb_S1x160_S1x160_0_0).toLoadRect (harg5.unread x3)) (ix2 d l)) rfl ?_
  refine (column_apply _ d l).trans ?_
  rw [Memref.IsWhole.readAt_unread]
  refine congrArg x3 (funext fun a => Fin.ext ?_)
  match a with
  | ⟨0, _⟩ => rfl
  | ⟨1, _⟩ => rfl

theorem first_7 (v : View sig .tc .vmem S8x2x160x128 .bf16) (f : BufTy.Contents (Elt Ideal) v.ty) (b : Fin 8) (h : Fin 2) (d : Fin 160) (k : Fin 128) :
    v.read (Elt Ideal) (v.writes (Elt Ideal) f (kernelRun0_A (F := Ideal) c i arg2 harg2 arg3 harg3 arg4 harg4 arg5 harg5 arg6 harg6 arg7 harg7 arg8 harg8 arg9 harg9 hc0 x0 x1 x2 x3).2.1) (ix4 b h d k)
      = expW (fun r d => x1 (ix2 r d)) b h d k :=
  View.read_writes_apply_of_pieces _ _ (expG fun r d => x1 (ix2 r d)) _ (first_pieces7 c i arg2 harg2 arg3 harg3 arg4 harg4 arg5 harg5 arg6 harg6 arg7 harg7 arg8 harg8 arg9 harg9 hc0 x0 x1 x2 x3) _
    (scover0_A_0 (F := Ideal) c i arg2 harg2 arg3 harg3 arg4 harg4 arg5 harg5 arg6 harg6 arg7 harg7 arg8 harg8 arg9 harg9 hc0 x0 x1 x2 x3 (ix4 b h d k))

theorem first_8 (v : View sig .tc .vmem S160x128 .f32) (f : BufTy.Contents (Elt Ideal) v.ty) (d : Fin 160) (l : Fin 128) :
    v.read (Elt Ideal) (v.writes (Elt Ideal) f (kernelRun0_A (F := Ideal) c i arg2 harg2 arg3 harg3 arg4 harg4 arg5 harg5 arg6 harg6 arg7 harg7 arg8 harg8 arg9 harg9 hc0 x0 x1 x2 x3).2.2.1) (ix2 d l) = x2 (ix2 0 d) :=
  View.read_writes_apply_of_pieces _ _ (fun y => x2 (ix2 0 (y 0))) _ (first_pieces8 c i arg2 harg2 arg3 harg3 arg4 harg4 arg5 harg5 arg6 harg6 arg7 harg7 arg8 harg8 arg9 harg9 hc0 x0 x1 x2 x3) _
    (scover0_A_1 (F := Ideal) c i arg2 harg2 arg3 harg3 arg4 harg4 arg5 harg5 arg6 harg6 arg7 harg7 arg8 harg8 arg9 harg9 hc0 x0 x1 x2 x3 (ix2 d l))

theorem first_9 (v : View sig .tc .vmem S160x128 .f32) (f : BufTy.Contents (Elt Ideal) v.ty) (d : Fin 160) (l : Fin 128) :
    v.read (Elt Ideal) (v.writes (Elt Ideal) f (kernelRun0_A (F := Ideal) c i arg2 harg2 arg3 harg3 arg4 harg4 arg5 harg5 arg6 harg6 arg7 harg7 arg8 harg8 arg9 harg9 hc0 x0 x1 x2 x3).2.2.2.1) (ix2 d l) = x3 (ix2 0 d) :=
  View.read_writes_apply_of_pieces _ _ (fun y => x3 (ix2 0 (y 0))) _ (first_pieces9 c i arg2 harg2 arg3 harg3 arg4 harg4 arg5 harg5 arg6 harg6 arg7 harg7 arg8 harg8 arg9 harg9 hc0 x0 x1 x2 x3) _
    (scover0_A_2 (F := Ideal) c i arg2 harg2 arg3 harg3 arg4 harg4 arg5 harg5 arg6 harg6 arg7 harg7 arg8 harg8 arg9 harg9 hc0 x0 x1 x2 x3 (ix2 d l))

/-- **The first point's block**: the block function at the program's weights, scale and bias. -/
theorem out_A (hC : ∀ j, (x0 j).toNat < 1000) (y : S8x160x2048.Idx) :
    out0_A_4 (F := Ideal) c i arg2 harg2 arg3 harg3 arg4 harg4 arg5 harg5 arg6 harg6 arg7 harg7 arg8 harg8 arg9 harg9 hc0 x0 x1 x2 x3 y
      = blockG x0 (fun r d => x1 (ix2 r d)) (fun d => x2 (ix2 0 d)) (fun d => x3 (ix2 0 d)) y := by
  unfold out0_A_4
  refine View.read_writes_apply_of_pieces _ _ (blockG x0 (fun r d => x1 (ix2 r d)) (fun d => x2 (ix2 0 d)) (fun d => x3 (ix2 0 d))) _ ?_ y
    (cover0_A_4 (F := Ideal) c i arg2 harg2 arg3 harg3 arg4 harg4 arg5 harg5 arg6 harg6 arg7 harg7 arg8 harg8 arg9 harg9 hc0 x0 x1 x2 x3 y)
  unfold kernelRun0_A
  dsimp only
  exact loop_pieces c i arg2 harg2 arg3 harg3 arg4 harg4 arg5 harg5 arg6 harg6 arg7 harg7 arg8 harg8 arg9 harg9 _ _ _ _ (harg2.read_unread x0) (fun b h d k => first_7 c i arg2 harg2 arg3 harg3 arg4 harg4 arg5 harg5 arg6 harg6 arg7 harg7 arg8 harg8 arg9 harg9 hc0 x0 x1 x2 x3 _ _ b h d k)
    (fun d l => first_8 c i arg2 harg2 arg3 harg3 arg4 harg4 arg5 harg5 arg6 harg6 arg7 harg7 arg8 harg8 arg9 harg9 hc0 x0 x1 x2 x3 _ _ d l) (fun d l => first_9 c i arg2 harg2 arg3 harg3 arg4 harg4 arg5 harg5 arg6 harg6 arg7 harg7 arg8 harg8 arg9 harg9 hc0 x0 x1 x2 x3 _ _ d l) hC _ (by decide)

/-- The carried scratch after the first point: the expanded weights, the scale's column, the bias's column. -/
theorem sout_A_0 (b : Fin 8) (h : Fin 2) (d : Fin 160) (k : Fin 128) :
    sout0_A_0 (F := Ideal) c i arg2 harg2 arg3 harg3 arg4 harg4 arg5 harg5 arg6 harg6 arg7 harg7 arg8 harg8 arg9 harg9 hc0 x0 x1 x2 x3 (ix4 b h d k) = expW (fun r d => x1 (ix2 r d)) b h d k := by
  unfold sout0_A_0
  exact first_7 c i arg2 harg2 arg3 harg3 arg4 harg4 arg5 harg5 arg6 harg6 arg7 harg7 arg8 harg8 arg9 harg9 hc0 x0 x1 x2 x3 _ _ b h d k

theorem sout_A_1 (d : Fin 160) (l : Fin 128) : sout0_A_1 (F := Ideal) c i arg2 harg2 arg3 harg3 arg4 harg4 arg5 harg5 arg6 harg6 arg7 harg7 arg8 harg8 arg9 harg9 hc0 x0 x1 x2 x3 (ix2 d l) = x2 (ix2 0 d) := by
  unfold sout0_A_1
  exact first_8 c i arg2 harg2 arg3 harg3 arg4 harg4 arg5 harg5 arg6 harg6 arg7 harg7 arg8 harg8 arg9 harg9 hc0 x0 x1 x2 x3 _ _ d l

theorem sout_A_2 (d : Fin 160) (l : Fin 128) : sout0_A_2 (F := Ideal) c i arg2 harg2 arg3 harg3 arg4 harg4 arg5 harg5 arg6 harg6 arg7 harg7 arg8 harg8 arg9 harg9 hc0 x0 x1 x2 x3 (ix2 d l) = x3 (ix2 0 d) := by
  unfold sout0_A_2
  exact first_9 c i arg2 harg2 arg3 harg3 arg4 harg4 arg5 harg5 arg6 harg6 arg7 harg7 arg8 harg8 arg9 harg9 hc0 x0 x1 x2 x3 _ _ d l
end First
end Point
end Cert.KernelIdeal.Hand
end
-- ==== Proof.KernelIdeal.Value.lean ====
module

public import proofs.«01_k».proof.Proof.KernelIdeal.Point
public import Idealize.ShloMosaic.Lib.Claim
@[expose] public section
set_option maxRecDepth 16384
noncomputable section
namespace Cert.KernelIdeal.Hand
open Cert.KernelIdeal.Gen
open Idealize.ShloMosaic hiding ix0 ix1 ix2 ix3 ix4 ix5
open Idealize.ShloMosaic.TcCoe Idealize.ShloMosaic.Tactic
open Idealize.SL.Sem
open Idealize.ShloMosaic.Pipeline (Dat)
open Idealize.ShloMosaic.ValueIdx

/-! # What the kernel's result array holds -/

variable (m : (ℓ : Loc nD τ sig) → Buf (Elt Ideal) ℓ)

/-- The block index of every window at every grid point. -/
theorem idx : ∀ t : Fin cfg0.N, win0_0.index t = ![0, t.val / 8, t.val % 8, 0, 0] ∧ win0_1.index t = ![0, 0] ∧ win0_2.index t = ![0, 0]
    ∧ win0_3.index t = ![0, 0] ∧ win0_4.index t = ![t.val / 8, 0, t.val % 8] :=
  (by decide +kernel : ∀ t : Fin grid0.N, _)

theorem weights_block (c : Dev nD) (t : Fin cfg0.N) (r : Fin 40) (d : Fin 160) :
    iblk m c 1 t (ix2 r d) = m ((c : Thread nD τ).loc main_arg1) (ix2 r d) := by
  blk_ext [iblk, V, idx t]

theorem scale_entry (c : Dev nD) : (V m c main_v3 : S1x160.Idx → EReal)
    = shapeCast S1x160 (m ((c : Thread nD τ).loc main_arg2) : S160.Idx → EReal) shapeCasts_S160_S1x160 := by
  show StableHlo.after hostOps0 (fun b => m (c, b)) (Proc.devRef .tc main_v3) = _
  entry_read
  rfl

theorem scale_block (c : Dev nD) (t : Fin cfg0.N) (d : Fin 160) :
    iblk m c 2 t (ix2 0 d) = (m ((c : Thread nD τ).loc main_arg2) : S160.Idx → EReal) (ValueIdx.ix1 d) := by
  have e : iblk m c 2 t (ix2 0 d) = (V m c main_v3 : S1x160.Idx → EReal) (ix2 0 d) := by
    blk_ext [iblk, idx t]
  rw [e, scale_entry]
  refine shapeCast_apply _ _ _ (ValueIdx.ix1 d) ?_
  rw [Shape.rowMajor_val_one, Shape.rowMajor_val_two]
  simp

theorem bias_entry (c : Dev nD) : (V m c main_v4 : S1x160.Idx → EReal)
    = shapeCast S1x160 (m ((c : Thread nD τ).loc main_arg3) : S160.Idx → EReal) shapeCasts_S160_S1x160 := by
  show StableHlo.after hostOps0 (fun b => m (c, b)) (Proc.devRef .tc main_v4) = _
  entry_read
  rfl

theorem bias_block (c : Dev nD) (t : Fin cfg0.N) (d : Fin 160) :
    iblk m c 3 t (ix2 0 d) = (m ((c : Thread nD τ).loc main_arg3) : S160.Idx → EReal) (ValueIdx.ix1 d) := by
  have e : iblk m c 3 t (ix2 0 d) = (V m c main_v4 : S1x160.Idx → EReal) (ix2 0 d) := by
    blk_ext [iblk, idx t]
  rw [e, bias_entry]
  refine shapeCast_apply _ _ _ (ValueIdx.ix1 d) ?_
  rw [Shape.rowMajor_val_one, Shape.rowMajor_val_two]
  simp

/-- The codes as the host lays them out: book, tile of eight batch rows, tile of 128 columns, batch row, column. -/
theorem codes_entry (c : Dev nD) : (V m c main_v2 : S10x6x128x8x128.Idx → BitVec 32)
    = transpose S10x6x128x8x128 [0, 1, 3, 2, 4] (shapeCast S10x6x8x128x128 (transpose S10x48x16384 [2, 0, 1]
        (m ((c : Thread nD τ).loc main_arg0) : S48x16384x10.Idx → BitVec 32) transposes_S48x16384x10_S10x48x16384_2_0_1)
        shapeCasts_S10x48x16384_S10x6x8x128x128) transposes_S10x6x8x128x128_S10x6x128x8x128_0_1_3_2_4 := by
  show StableHlo.after hostOps0 (fun b => m (c, b)) (Proc.devRef .tc main_v2) = _
  entry_read
  rfl

/-- Its element at an index. -/
theorem codes_entry_apply (c : Dev nD) (k : Fin 10) (I : Fin 6) (J : Fin 128) (s : Fin 8) (l : Fin 128) :
    (V m c main_v2 : S10x6x128x8x128.Idx → BitVec 32) (ix5 k I J s l)
      = (m ((c : Thread nD τ).loc main_arg0) : S48x16384x10.Idx → BitVec 32) (ix3 ⟨8 * I.val + s.val, by omega⟩ ⟨128 * J.val + l.val, by omega⟩ k) := by
  rw [codes_entry]
  refine (transpose_apply _ _ _ _ (ix5 k I s J l) fun b => ?_).trans ?_
  · match b with
    | ⟨0, _⟩ => rfl
    | ⟨1, _⟩ => rfl
    | ⟨2, _⟩ => rfl
    | ⟨3, _⟩ => rfl
    | ⟨4, _⟩ => rfl
  refine (shapeCast_apply _ _ _ (ix3 k ⟨8 * I.val + s.val, by omega⟩ ⟨128 * J.val + l.val, by omega⟩) ?_).trans ?_
  · rw [Shape.rowMajor_val_five, Shape.rowMajor_val_three]
    show (k.val * 48 + (8 * I.val + s.val)) * 16384 + (128 * J.val + l.val) = (((k.val * 6 + I.val) * 8 + s.val) * 128 + J.val) * 128 + l.val
    ring
  · refine transpose_apply _ _ _ _ _ fun b => ?_
    match b with
    | ⟨0, _⟩ => rfl
    | ⟨1, _⟩ => rfl
    | ⟨2, _⟩ => rfl

theorem codes_block (c : Dev nD) (t : Fin cfg0.N) (k : Fin 10) (T : Fin 16) (s : Fin 8) (l : Fin 128) :
    iblk m c 0 t (ix5 k 0 T s l) = (m ((c : Thread nD τ).loc main_arg0) : S48x16384x10.Idx → BitVec 32)
      (ix3 ⟨8 * (t.val / 8) + s.val, by have := lt_of_lt_of_eq t.isLt N_0; omega⟩ ⟨2048 * (t.val % 8) + 128 * T.val + l.val, by omega⟩ k) := by
  have ht := lt_of_lt_of_eq t.isLt N_0
  have e : iblk m c 0 t (ix5 k 0 T s l) = (V m c main_v2 : S10x6x128x8x128.Idx → BitVec 32)
      (ix5 k ⟨t.val / 8, by omega⟩ ⟨16 * (t.val % 8) + T.val, by omega⟩ s l) := by
    blk_ext [iblk, idx t]
    show t.val % 8 * 16 + T.val = 16 * (t.val % 8) + T.val
    omega
  rw [e, codes_entry_apply]
  have e2 : 128 * (16 * (t.val % 8) + T.val) + l.val = 2048 * (t.val % 8) + 128 * T.val + l.val := by ring
  simp only [e2]

/-- The decoded value at a batch row, a column and an output row: the codes' digits weighted, times the scale, plus the bias. -/
def decoded (C : S48x16384x10.Idx → BitVec 32) (W : S40x160.Idx → EReal) (SC BI : S160.Idx → EReal) (b : Fin 48) (s : Fin 16384) (d : Fin 160) : EReal :=
  latent (fun r d => W (ix2 r d)) d (fun k => C (ix3 b s k)) * SC (ValueIdx.ix1 d) + BI (ValueIdx.ix1 d)

/-- The first point's scratch. -/
theorem scratch_first (c : Dev nD) (t : Fin cfg0.N) (h0 : t.val % 48 = 0) :
    (∀ (b : Fin 8) (h : Fin 2) (d : Fin 160) (k : Fin 128), (outsAt0 (F := Ideal) m c t.val t.isLt).2.1 (ix4 b h d k)
      = expW (fun r d => (m ((c : Thread nD τ).loc main_arg1) : S40x160.Idx → EReal) (ix2 r d)) b h d k)
    ∧ (∀ (d : Fin 160) (l : Fin 128), (outsAt0 (F := Ideal) m c t.val t.isLt).2.2.1 (ix2 d l) = (m ((c : Thread nD τ).loc main_arg2) : S160.Idx → EReal) (ValueIdx.ix1 d))
    ∧ (∀ (d : Fin 160) (l : Fin 128), (outsAt0 (F := Ideal) m c t.val t.isLt).2.2.2 (ix2 d l) = (m ((c : Thread nD τ).loc main_arg3) : S160.Idx → EReal) (ValueIdx.ix1 d)) := by
  rw [outsAt0_A m c t h0]
  dsimp only
  refine ⟨fun b h d k => ?_, fun d l => ?_, fun d l => ?_⟩
  · rw [sout_A_0]
    have e : (fun (r : Fin 40) (d : Fin 160) => iblk m c 1 t (ix2 r d)) = fun r d => (m ((c : Thread nD τ).loc main_arg1) : S40x160.Idx → EReal) (ix2 r d) := by
      funext r d; exact weights_block m c t r d
    exact congrArg (fun W => expW W b h d k) e
  · rw [sout_A_1]
    exact scale_block m c t d
  · rw [sout_A_2]
    exact bias_block m c t d

/-- Every later point leaves the scratch as it found it. -/
theorem scratch_later (c : Dev nD) (t : Fin cfg0.N) (h0 : ¬ t.val % 48 = 0) :
    (outsAt0 (F := Ideal) m c t.val t.isLt).2 = (outsAt0 (F := Ideal) m c (t.val - 1) (Nat.lt_of_le_of_lt (Nat.sub_le _ _) t.isLt)).2 := by
  rw [outsAt0_B m c t h0]
  dsimp only [sout0_B_0, sout0_B_1, sout0_B_2]

/-- What the carried scratch holds after every point: the expanded weights, the scale's and the bias's columns. -/
theorem scratch (c : Dev nD) : ∀ (n : ℕ) (hn : n < cfg0.N),
    (∀ (b : Fin 8) (h : Fin 2) (d : Fin 160) (k : Fin 128), (outsAt0 (F := Ideal) m c n hn).2.1 (ix4 b h d k)
      = expW (fun r d => (m ((c : Thread nD τ).loc main_arg1) : S40x160.Idx → EReal) (ix2 r d)) b h d k)
    ∧ (∀ (d : Fin 160) (l : Fin 128), (outsAt0 (F := Ideal) m c n hn).2.2.1 (ix2 d l) = (m ((c : Thread nD τ).loc main_arg2) : S160.Idx → EReal) (ValueIdx.ix1 d))
    ∧ (∀ (d : Fin 160) (l : Fin 128), (outsAt0 (F := Ideal) m c n hn).2.2.2 (ix2 d l) = (m ((c : Thread nD τ).loc main_arg3) : S160.Idx → EReal) (ValueIdx.ix1 d)) := by
  intro n
  induction n with
  | zero => exact fun hn => scratch_first m c ⟨0, hn⟩ rfl
  | succ n ih =>
    intro hn
    have hN : n + 1 < 48 := lt_of_lt_of_eq hn N_0
    have e : (outsAt0 (F := Ideal) m c (n + 1) hn).2 = (outsAt0 (F := Ideal) m c n (Nat.lt_of_succ_lt hn)).2 :=
      scratch_later m c ⟨n + 1, hn⟩ (by show ¬ (n + 1) % 48 = 0; omega)
    rw [e]
    exact ih _

/-- **What a point leaves in the output's block**, at an index. -/
theorem block_apply (c : Dev nD) (hC : ∀ j, ((m ((c : Thread nD τ).loc main_arg0) : S48x16384x10.Idx → BitVec 32) j).toNat < 1000)
    (t : Fin cfg0.N) (b : Fin 8) (d : Fin 160) (q : Fin 2048) :
    (outsAt0 (F := Ideal) m c t.val t.isLt).1 (ix3 b d q)
      = decoded (m ((c : Thread nD τ).loc main_arg0)) (m ((c : Thread nD τ).loc main_arg1)) (m ((c : Thread nD τ).loc main_arg2))
          (m ((c : Thread nD τ).loc main_arg3)) ⟨8 * (t.val / 8) + b.val, by have := lt_of_lt_of_eq t.isLt N_0; omega⟩
          ⟨2048 * (t.val % 8) + q.val, by omega⟩ d := by
  have hx : ∀ j : S10x1x16x8x128.Idx, (iblk m c 0 t j).toNat < 1000 := fun j => by
    obtain ⟨k, u, T, s, l, rfl⟩ : ∃ (k : Fin 10) (u : Fin 1) (T : Fin 16) (s : Fin 8) (l : Fin 128), j = ix5 k u T s l :=
      ⟨j 0, j 1, j 2, j 3, j 4, ValueIdx.eq_ix5 j⟩
    obtain rfl : u = 0 := Subsingleton.elim _ _
    rw [codes_block]
    exact hC _
  have key : ∀ (W : Fin 40 → Fin 160 → EReal) (SC BI : Fin 160 → EReal),
      W = (fun r d => (m ((c : Thread nD τ).loc main_arg1) : S40x160.Idx → EReal) (ix2 r d)) →
      SC = (fun d => (m ((c : Thread nD τ).loc main_arg2) : S160.Idx → EReal) (ValueIdx.ix1 d)) →
      BI = (fun d => (m ((c : Thread nD τ).loc main_arg3) : S160.Idx → EReal) (ValueIdx.ix1 d)) →
      blockG (iblk m c 0 t) W SC BI (ix3 b d q)
      = decoded (m ((c : Thread nD τ).loc main_arg0)) (m ((c : Thread nD τ).loc main_arg1)) (m ((c : Thread nD τ).loc main_arg2))
          (m ((c : Thread nD τ).loc main_arg3)) ⟨8 * (t.val / 8) + b.val, by have := lt_of_lt_of_eq t.isLt N_0; omega⟩
          ⟨2048 * (t.val % 8) + q.val, by omega⟩ d := by
    rintro W SC BI rfl rfl rfl
    unfold blockG decoded
    have e : (fun k : Fin 10 => iblk m c 0 t (ix5 k 0 ⟨q.val / 128, by omega⟩ b ⟨q.val % 128, by omega⟩))
        = fun k => (m ((c : Thread nD τ).loc main_arg0) : S48x16384x10.Idx → BitVec 32)
          (ix3 ⟨8 * (t.val / 8) + b.val, by have := lt_of_lt_of_eq t.isLt N_0; omega⟩ ⟨2048 * (t.val % 8) + q.val, by omega⟩ k) := by
      funext k
      rw [codes_block]
      have e2 : 2048 * (t.val % 8) + 128 * (q.val / 128) + q.val % 128 = 2048 * (t.val % 8) + q.val := by omega
      simp only [e2]
    exact congrArg (fun C => latent _ d C * _ + _) e
  by_cases h0 : t.val % 48 = 0
  · rw [outsAt0_A m c t h0]
    refine (out_A c _ _ _ _ _ _ _ _ _ _ _ _ _ _ _ _ _ _ _ _ _ _ hx _).trans (key _ _ _ ?_ ?_ ?_)
    · funext r d; exact weights_block m c t r d
    · funext d; exact scale_block m c t d
    · funext d; exact bias_block m c t d
  · rw [outsAt0_B m c t h0]
    obtain ⟨s0, s1, s2⟩ := scratch m c (t.val - 1) (Nat.lt_of_le_of_lt (Nat.sub_le _ _) t.isLt)
    exact (out_B c _ _ _ _ _ _ _ _ _ _ _ _ _ _ _ _ _ _ _ _ _ _ _ _ _ s0 s1 s2 hx _).trans (key _ _ _ rfl rfl rfl)

/-- **The array the kernel's call leaves**, before the host's last transpose. -/
theorem final (c : Dev nD) (hC : ∀ j, ((m ((c : Thread nD τ).loc main_arg0) : S48x16384x10.Idx → BitVec 32) j).toNat < 1000) :
    (dats (F := Ideal) m 0 c).arrAt 4 (cfgs 0).N = (fun y : S48x160x16384.Idx =>
      decoded (m ((c : Thread nD τ).loc main_arg0)) (m ((c : Thread nD τ).loc main_arg1)) (m ((c : Thread nD τ).loc main_arg2))
          (m ((c : Thread nD τ).loc main_arg3)) (y 0) (y 2) (y 1)) := by
  refine (dats (F := Ideal) m 0 c).arrAt_eq_of_covers 4 _ (by decide +kernel) fun t _ y => ?_
  blk_simp
  rw [after0_4]
  obtain ⟨b, d, q, rfl⟩ : ∃ (b : Fin 8) (d : Fin 160) (q : Fin 2048), y = ix3 b d q := ⟨y 0, y 1, y 2, ValueIdx.eq_ix3 y⟩
  refine (block_apply m c hC t b d q).trans ?_
  have ht := lt_of_lt_of_eq t.isLt N_0
  have e : (win0_4.blk t).view.emb (ix3 b d q) = ix3 ⟨8 * (t.val / 8) + b.val, by omega⟩ d ⟨2048 * (t.val % 8) + q.val, by omega⟩ := by
    blk_ext [idx t]
    all_goals first
      | (show t.val / 8 * 8 + b.val = _; omega)
      | (show t.val % 8 * 2048 + q.val = _; omega)
  rw [e]
end Cert.KernelIdeal.Hand
end
-- ==== Proof.ReferenceIdeal.Digits.lean ====
module

public import proofs.«01_k».proof.Proof.KernelIdeal.Spec
public import proofs.«01_k».proof.Proof.Gen.ReferenceIdeal
public import Idealize.ShloMosaic.Lib.Pipeline.Value
@[expose] public section
set_option maxRecDepth 16384
noncomputable section
namespace Cert.ReferenceIdeal.Hand
open Cert.ReferenceIdeal Cert.ReferenceIdeal.Gen
open Cert.KernelIdeal.Hand (digitN strideN levelN halfN normDigit digitN_lt)
open Idealize.ShloMosaic hiding ix0 ix1 ix2 ix3 ix4 ix5
open Idealize.ShloMosaic.ValueIdx

/-! # The reference's digits: integer floor division, remainder, normalisation -/

/-- The sign of a word: -1, 0 or 1. -/
def sgnW (x : BitVec 32) : BitVec 32 := if x = 0 then 0 else if x.msb then -1 else 1

/-- Floor division of words as the reference spells it: the quotient toward zero, less one where the signs differ and the division leaves a rest. -/
def floorW (x y : BitVec 32) : BitVec 32 :=
  Scalar.select (IntOp.andi (IntOp.cmpi .ne (sgnW x) (sgnW y)) (IntOp.cmpi .ne (IntOp.remsi .host x y) 0#32))
    (IntOp.subi (IntOp.divsi .host x y) 1#32) (IntOp.divsi .host x y)

/-- The divisor the remainder is taken by: 1 in place of 0. -/
def divisorW (y : BitVec 32) : BitVec 32 := Scalar.select (IntOp.cmpi .eq y 0#32) 1#32 y

/-- The remainder of words as the reference spells it: with the divisor's sign. -/
def remW (x y : BitVec 32) : BitVec 32 :=
  Scalar.select (IntOp.andi (IntOp.cmpi .ne (IntOp.cmpi .slt (IntOp.remsi .host x (divisorW y)) 0#32) (IntOp.cmpi .slt (divisorW y) 0#32))
      (IntOp.cmpi .ne (IntOp.remsi .host x (divisorW y)) 0#32))
    (IntOp.addi (IntOp.remsi .host x (divisorW y)) (divisorW y)) (IntOp.remsi .host x (divisorW y))

theorem digit_words : ∀ (g : Fin 4) (n : Fin 1000), remW (floorW (BitVec.ofNat 32 n.val) (lit1 g)) (lit0 g) = BitVec.ofNat 32 (digitN g n.val) := by
  decide +kernel

/-- The digit of a code below 1000, as a word. -/
theorem digit_word (g : Fin 4) (x : BitVec 32) (hx : x.toNat < 1000) : remW (floorW x (lit1 g)) (lit0 g) = BitVec.ofNat 32 (digitN g x.toNat) := by
  have e : x = BitVec.ofNat 32 x.toNat := by simp
  have h := digit_words g ⟨x.toNat, hx⟩
  dsimp only at h
  rw [← e] at h
  exact h

theorem half_value (g : Fin 4) : Ideal.ofBits .f32 (lit2 g) = ((halfN g : ℝ) : EReal) := by
  fin_cases g <;> (simp [Ideal.ofBits, Ideal.ieee, lit2, halfN, -EReal.coe_mul]; try norm_num)

/-- A digit less half the levels, over half the levels. -/
theorem norm_value (g : Fin 4) (n : ℕ) :
    Ideal.div ((((BitVec.ofNat 32 (digitN g n)).toInt : ℝ) : EReal) - Ideal.ofBits .f32 (lit2 g)) (Ideal.ofBits .f32 (lit2 g)) = ((normDigit g n : ℝ) : EReal) := by
  have hd := digitN_lt g n
  have hl : levelN g ≤ 8 := by fin_cases g <;> decide
  have hh : (halfN g : ℝ) ≠ 0 := by fin_cases g <;> norm_num [halfN]
  have ei : (BitVec.ofNat 32 (digitN g n)).toInt = (digitN g n : ℤ) := by
    rw [BitVec.toInt_eq_toNat_of_lt] <;> rw [BitVec.toNat_ofNat, Nat.mod_eq_of_lt (by omega)]
    omega
  rw [half_value, ei, Ideal.div, if_neg (by exact_mod_cast hh)]
  unfold normDigit
  rw [Int.cast_natCast, ← EReal.coe_sub, ← EReal.coe_inv, ← EReal.coe_mul, div_eq_mul_inv]

/-! ## The reference's arrays -/

/-- A row of four spread over the codes' array. -/
theorem spread_apply {α : Type} (x : S4.Idx → α) (b : Fin 48) (s : Fin 16384) (k : Fin 10) (g : Fin 4) :
    broadcastInDim S48x16384x10x4 ![0, 1, 2, 3] bcast_S1x1x1x4_S48x16384x10x4_0_1_2_3 (broadcastInDim S1x1x1x4 ![3] bcast_S4_S1x1x1x4_3 x) (ix4 b s k g) = x (ValueIdx.ix1 g) := by
  refine (broadcastInDim_apply _ _ _ _ (ix4 0 0 0 g) fun a => ?_).trans (broadcastInDim_apply _ _ _ _ (ValueIdx.ix1 g) fun a => ?_)
  · match a with
    | ⟨0, _⟩ => rfl
    | ⟨1, _⟩ => rfl
    | ⟨2, _⟩ => rfl
    | ⟨3, _⟩ => rfl
  · match a with
    | ⟨0, _⟩ => rfl

/-- The codes repeated four times. -/
theorem repeat_apply (C : S48x16384x10.Idx → BitVec 32) (b : Fin 48) (s : Fin 16384) (k : Fin 10) (g : Fin 4) :
    broadcastInDim S48x16384x10x4 ![0, 1, 2, 3] bcast_S48x16384x10x1_S48x16384x10x4_0_1_2_3
      (broadcastInDim S48x16384x10x1 ![0, 1, 2] bcast_S48x16384x10_S48x16384x10x1_0_1_2 C) (ix4 b s k g) = C (ix3 b s k) := by
  refine (broadcastInDim_apply _ _ _ _ (ix4 b s k 0) fun a => ?_).trans (broadcastInDim_apply _ _ _ _ (ix3 b s k) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The floor division's array, from the codes with a unit axis and the row of divisors. -/
def floorT (X : S48x16384x10x1.Idx → BitVec 32) (Y : S4.Idx → BitVec 32) : S48x16384x10x4.Idx → BitVec 32 :=
  select
      (andi
        (cmpi CmpIPredicate.ne
          (broadcastInDim S48x16384x10x4 ![0, 1, 2, 3] bcast_S48x16384x10x1_S48x16384x10x4_0_1_2_3 (signi X))
          (broadcastInDim S48x16384x10x4 ![0, 1, 2, 3] bcast_S1x1x1x4_S48x16384x10x4_0_1_2_3
            (signi (broadcastInDim S1x1x1x4 ![3] bcast_S4_S1x1x1x4_3 Y))))
        (cmpi CmpIPredicate.ne
          (Host.remsi
            (broadcastInDim S48x16384x10x4 ![0, 1, 2, 3] bcast_S48x16384x10x1_S48x16384x10x4_0_1_2_3 X)
            (broadcastInDim S48x16384x10x4 ![0, 1, 2, 3] bcast_S1x1x1x4_S48x16384x10x4_0_1_2_3
              (broadcastInDim S1x1x1x4 ![3] bcast_S4_S1x1x1x4_3 Y)))
          (broadcastInDim S48x16384x10x4 ![] bcast_S_S48x16384x10x4 (constantI S_ 32 0#32))))
      (subi
        (Host.divsi
          (broadcastInDim S48x16384x10x4 ![0, 1, 2, 3] bcast_S48x16384x10x1_S48x16384x10x4_0_1_2_3 X)
          (broadcastInDim S48x16384x10x4 ![0, 1, 2, 3] bcast_S1x1x1x4_S48x16384x10x4_0_1_2_3
            (broadcastInDim S1x1x1x4 ![3] bcast_S4_S1x1x1x4_3 Y)))
        (broadcastInDim S48x16384x10x4 ![] bcast_S_S48x16384x10x4 (constantI S_ 32 1#32)))
      (Host.divsi
        (broadcastInDim S48x16384x10x4 ![0, 1, 2, 3] bcast_S48x16384x10x1_S48x16384x10x4_0_1_2_3 X)
        (broadcastInDim S48x16384x10x4 ![0, 1, 2, 3] bcast_S1x1x1x4_S48x16384x10x4_0_1_2_3
          (broadcastInDim S1x1x1x4 ![3] bcast_S4_S1x1x1x4_3 Y)))

theorem floorT_word (X : S48x16384x10x1.Idx → BitVec 32) (Y : S4.Idx → BitVec 32) (j : S48x16384x10x4.Idx) :
    floorT X Y j = floorW (broadcastInDim S48x16384x10x4 ![0, 1, 2, 3] bcast_S48x16384x10x1_S48x16384x10x4_0_1_2_3 X j)
      (broadcastInDim S48x16384x10x4 ![0, 1, 2, 3] bcast_S1x1x1x4_S48x16384x10x4_0_1_2_3 (broadcastInDim S1x1x1x4 ![3] bcast_S4_S1x1x1x4_3 Y) j) := rfl

/-- The row the remainder is taken by. -/
def divisorT (Y : S4.Idx → BitVec 32) : S1x1x1x4.Idx → BitVec 32 :=
  select
    (cmpi CmpIPredicate.eq (broadcastInDim S1x1x1x4 ![3] bcast_S4_S1x1x1x4_3 Y)
      (broadcastInDim S1x1x1x4 ![] bcast_S_S1x1x1x4 (constantI S_ 32 0#32)))
    (broadcastInDim S1x1x1x4 ![] bcast_S_S1x1x1x4 (constantI S_ 32 1#32))
    (broadcastInDim S1x1x1x4 ![3] bcast_S4_S1x1x1x4_3 Y)

/-- The remainder's array, from the quotients and the row of divisors. -/
def remT (Q : S48x16384x10x4.Idx → BitVec 32) (Y : S4.Idx → BitVec 32) : S48x16384x10x4.Idx → BitVec 32 :=
  select
      (andi
        (cmpi CmpIPredicate.ne
          (cmpi CmpIPredicate.slt
            (Host.remsi Q (broadcastInDim S48x16384x10x4 ![0, 1, 2, 3] bcast_S1x1x1x4_S48x16384x10x4_0_1_2_3 (divisorT Y)))
            (broadcastInDim S48x16384x10x4 ![] bcast_S_S48x16384x10x4 (constantI S_ 32 0#32)))
          (broadcastInDim S48x16384x10x4 ![0, 1, 2, 3] bcast_S1x1x1x4_S48x16384x10x4_0_1_2_3
            (cmpi CmpIPredicate.slt (divisorT Y) (broadcastInDim S1x1x1x4 ![] bcast_S_S1x1x1x4 (constantI S_ 32 0#32)))))
        (cmpi CmpIPredicate.ne
          (Host.remsi Q (broadcastInDim S48x16384x10x4 ![0, 1, 2, 3] bcast_S1x1x1x4_S48x16384x10x4_0_1_2_3 (divisorT Y)))
          (broadcastInDim S48x16384x10x4 ![] bcast_S_S48x16384x10x4 (constantI S_ 32 0#32))))
      (addi
        (Host.remsi Q (broadcastInDim S48x16384x10x4 ![0, 1, 2, 3] bcast_S1x1x1x4_S48x16384x10x4_0_1_2_3 (divisorT Y)))
        (broadcastInDim S48x16384x10x4 ![0, 1, 2, 3] bcast_S1x1x1x4_S48x16384x10x4_0_1_2_3 (divisorT Y)))
      (Host.remsi Q (broadcastInDim S48x16384x10x4 ![0, 1, 2, 3] bcast_S1x1x1x4_S48x16384x10x4_0_1_2_3 (divisorT Y)))

theorem remT_word (Q : S48x16384x10x4.Idx → BitVec 32) (Y : S4.Idx → BitVec 32) (j : S48x16384x10x4.Idx) :
    remT Q Y j = remW (Q j) (broadcastInDim S48x16384x10x4 ![0, 1, 2, 3] bcast_S1x1x1x4_S48x16384x10x4_0_1_2_3 (broadcastInDim S1x1x1x4 ![3] bcast_S4_S1x1x1x4_3 Y) j) := rfl

/-- The normalised digits' array, from the digits and the row of halves: four to a book, side by side. -/
def normT (D : S48x16384x10x4.Idx → BitVec 32) (H : FVec Ideal S4 .f32) : FVec Ideal S48x16384x40 .bf16 :=
  shapeCast S48x16384x40 (truncf .bf16 (Host.divf (subf (sitofp .f32 D : FVec Ideal S48x16384x10x4 .f32)
      (broadcastInDim S48x16384x10x4 ![0, 1, 2, 3] bcast_S1x1x1x4_S48x16384x10x4_0_1_2_3 (broadcastInDim S1x1x1x4 ![3] bcast_S4_S1x1x1x4_3 H)))
      (broadcastInDim S48x16384x10x4 ![0, 1, 2, 3] bcast_S1x1x1x4_S48x16384x10x4_0_1_2_3 (broadcastInDim S1x1x1x4 ![3] bcast_S4_S1x1x1x4_3 H))) bitsLt_bf16_f32)
    shapeCasts_S48x16384x10x4_S48x16384x40

/-- **The normalised digit** of book `k` at digit `g`, for a code below 1000. -/
theorem normT_apply (C : S48x16384x10.Idx → BitVec 32) (hC : ∀ j, (C j).toNat < 1000) (b : Fin 48) (s : Fin 16384) (k : Fin 10) (g : Fin 4) :
    (normT (remT (floorT (broadcastInDim S48x16384x10x1 ![0, 1, 2] bcast_S48x16384x10_S48x16384x10x1_0_1_2 C) (fun i => lit1 (S4.rowMajor i)))
      (fun i => lit0 (S4.rowMajor i))) (fun i => FloatOps.ofBits .f32 (lit2 (S4.rowMajor i))) (ix3 b s ⟨4 * k.val + g.val, by omega⟩) : EReal)
      = ((normDigit g (C (ix3 b s k)).toNat : ℝ) : EReal) := by
  have er : S4.rowMajor (ValueIdx.ix1 g) = g := by
    apply Fin.ext
    rw [Shape.rowMajor_val_one]
  unfold normT
  refine (shapeCast_apply _ _ _ (ix4 b s k g) ?_).trans ?_
  · rw [Shape.rowMajor_val_four, Shape.rowMajor_val_three]
    show ((b.val * 16384 + s.val) * 10 + k.val) * 4 + g.val = (b.val * 16384 + s.val) * 40 + (4 * k.val + g.val)
    ring
  have eD : remT (floorT (broadcastInDim S48x16384x10x1 ![0, 1, 2] bcast_S48x16384x10_S48x16384x10x1_0_1_2 C) (fun i => lit1 (S4.rowMajor i)))
      (fun i => lit0 (S4.rowMajor i)) (ix4 b s k g) = BitVec.ofNat 32 (digitN g (C (ix3 b s k)).toNat) := by
    rw [remT_word, floorT_word, spread_apply, spread_apply, repeat_apply]
    exact (congrArg₂ (fun p q => remW (floorW (C (ix3 b s k)) p) q) (congrArg lit1 er) (congrArg lit0 er)).trans (digit_word g _ (hC _))
  have eH := (spread_apply (fun i => Ideal.ofBits .f32 (lit2 (S4.rowMajor i))) b s k g).trans (congrArg (fun i => Ideal.ofBits .f32 (lit2 i)) er)
  show Ideal.div ((((remT _ _ (ix4 b s k g)).toInt : ℝ) : EReal) - broadcastInDim S48x16384x10x4 ![0, 1, 2, 3] bcast_S1x1x1x4_S48x16384x10x4_0_1_2_3
    (broadcastInDim S1x1x1x4 ![3] bcast_S4_S1x1x1x4_3 (fun i => Ideal.ofBits .f32 (lit2 (S4.rowMajor i)))) (ix4 b s k g))
    (broadcastInDim S48x16384x10x4 ![0, 1, 2, 3] bcast_S1x1x1x4_S48x16384x10x4_0_1_2_3
    (broadcastInDim S1x1x1x4 ![3] bcast_S4_S1x1x1x4_3 (fun i => Ideal.ofBits .f32 (lit2 (S4.rowMajor i)))) (ix4 b s k g)) = _
  rw [eH, eD]
  exact norm_value g _
end Cert.ReferenceIdeal.Hand
end
-- ==== Proof.ReferenceIdeal.Value.lean ====
module

public import proofs.«01_k».proof.Proof.KernelIdeal.Value
public import proofs.«01_k».proof.Proof.ReferenceIdeal.Digits
public import proofs.«01_k».proof.Proof.Gen.ReferenceIdeal.Frame
public import Idealize.ShloMosaic.Lib.StableHlo.ReadAt
@[expose] public section
set_option maxRecDepth 16384
noncomputable section
namespace Cert.ReferenceIdeal.Hand
open Cert.ReferenceIdeal Cert.ReferenceIdeal.Gen
open Cert.KernelIdeal.Hand (normDigit latent decoded)
open Idealize.ShloMosaic.TcCoe Idealize.ShloMosaic.Tactic
open Idealize.SL.Sem
open Idealize.ShloMosaic.Pipeline (Dat)
open Idealize.ShloMosaic hiding ix0 ix1 ix2 ix3 ix4 ix5
open Idealize.ShloMosaic.ValueIdx

/-! # The reference's result -/

/-! ## The host's operations before the widening, stage by stage -/

variable (V : Valuation τ sig (Elt Ideal))

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The codes with a unit axis. -/
theorem stage0_v0 : StableHlo.after hostOps0 V (Proc.devRef .tc main_v0) =
    broadcastInDim S48x16384x10x1 ![0, 1, 2] bcast_S48x16384x10_S48x16384x10x1_0_1_2 (V (Proc.devRef .tc main_arg0)) := by
  after_reads_simp

theorem stage0_c : StableHlo.after hostOps0 V (Proc.devRef .tc main_c) = (fun i => lit0 (S4.rowMajor i)) := by
  after_reads_simp; try rfl

theorem stage0_c_0 : StableHlo.after hostOps0 V (Proc.devRef .tc main_c_0) = (fun i => lit1 (S4.rowMajor i)) := by
  after_reads_simp; try rfl

theorem stage0_cst : StableHlo.after hostOps0 V (Proc.devRef .tc main_cst) = (fun i => FloatOps.ofBits .f32 (lit2 (S4.rowMajor i)) : FVec Ideal S4 .f32) := by
  after_reads_simp; try rfl

/-- The floor division. -/
theorem stage1_v1 : StableHlo.after hostOps0_1 V (Proc.devRef .tc main_v1) =
    floorT (V (Proc.devRef .tc main_v0)) (V (Proc.devRef .tc main_c_0)) := by
  after_reads_simp
  simp -implicitDefEqProofs only [StableHlo.TRef.toBuf, StableHlo.TRef.ofBuf, cast_cast, cast_eq]
  clean_types
  rfl

theorem stage1_c : StableHlo.after hostOps0_1 V (Proc.devRef .tc main_c) = V (Proc.devRef .tc main_c) := by
  after_reads_simp

theorem stage1_cst : StableHlo.after hostOps0_1 V (Proc.devRef .tc main_cst) = V (Proc.devRef .tc main_cst) := by
  after_reads_simp

/-- The remainder. -/
theorem stage2_v2 : StableHlo.after hostOps0_2 V (Proc.devRef .tc main_v2) =
    remT (V (Proc.devRef .tc main_v1)) (V (Proc.devRef .tc main_c)) := by
  after_reads_simp
  simp -implicitDefEqProofs only [StableHlo.TRef.toBuf, StableHlo.TRef.ofBuf, cast_cast, cast_eq]
  clean_types
  rfl

theorem stage2_cst : StableHlo.after hostOps0_2 V (Proc.devRef .tc main_cst) = V (Proc.devRef .tc main_cst) := by
  after_reads_simp

/-- The normalisation. -/
theorem stage3_v11 : StableHlo.after hostOps0_3 V (Proc.devRef .tc main_v11) =
    normT (V (Proc.devRef .tc main_v2)) (V (Proc.devRef .tc main_cst)) := by
  after_reads_simp
  rfl

variable (m : (ℓ : Loc nD τ sig) → Buf (Elt Ideal) ℓ)

/-- What the product reads on its left: the normalised digits of the codes. -/
theorem entry_v11 (c : Dev nD) : V0 m c (Proc.devRef .tc main_v11) =
    normT (remT (floorT (broadcastInDim S48x16384x10x1 ![0, 1, 2] bcast_S48x16384x10_S48x16384x10x1_0_1_2 (m ((c : Thread nD τ).loc main_arg0)))
      (fun i => lit1 (S4.rowMajor i))) (fun i => lit0 (S4.rowMajor i))) (fun i => FloatOps.ofBits .f32 (lit2 (S4.rowMajor i))) := by
  show StableHlo.after (List.flatten [hostOps0, hostOps0_1, hostOps0_2, hostOps0_3]) _ _ = _
  rw [List.flatten_cons, List.flatten_cons, List.flatten_cons, List.flatten_cons, List.flatten_nil, List.append_nil,
    after_append, after_append, after_append, stage3_v11, stage2_v2, stage2_cst, stage1_v1, stage1_c, stage1_cst,
    stage0_v0, stage0_c, stage0_c_0, stage0_cst]

/-! ## The widened weights -/

theorem idx : ∀ t : Fin cfg0.N, win0_0.index t = ![0, 0] ∧ win0_1.index t = ![0, 0] :=
  (by decide +kernel : ∀ t : Fin grid0.N, _)

/-- The widened weights are the weights. -/
theorem widened (c : Dev nD) : (dats (F := Ideal) m 0 c).arrAt 1 (cfgs 0).N = (m ((c : Thread nD τ).loc main_arg1) : S40x160.Idx → EReal) := by
  refine (dats (F := Ideal) m 0 c).arrAt_eq_of_after_last 1 t0_0 (by decide +kernel) _ fun j => ?_
  blk_simp
  rw [after0_1]
  frame_out
  blk_point [iblk, V, idx t0_0]

/-! ## The product, the scale and the bias -/

/-- A sum over forty is a sum over ten books of four digits. -/
theorem sum_forty (f : Fin 40 → EReal) : ∑ j : Fin 40, f j = ∑ k : Fin 10, ∑ g : Fin 4, f ⟨4 * k.val + g.val, by omega⟩ := by
  rw [← Fintype.sum_prod_type' (f := fun (k : Fin 10) (g : Fin 4) => f ⟨4 * k.val + g.val, by omega⟩)]
  refine (Fintype.sum_equiv (finProdFinEquiv (m := 10) (n := 4)) (fun p => f ⟨4 * p.1.val + p.2.val, by omega⟩) f fun p => congrArg f (Fin.ext ?_)).symm
  show 4 * p.1.val + p.2.val = p.2.val + 4 * p.1.val
  omega

/-- The matrix product at a point: a sum over forty. -/
theorem dot_apply (Z : FVec Ideal S48x16384x40 .bf16) (W : FVec Ideal S40x160 .bf16) (b : Fin 48) (s : Fin 16384) (d : Fin 160) :
    (Host.dotGeneral dot_S48x16384x40_S40x160_S48x16384x160_2_0_01_1_n_n none Z W : FVec Ideal S48x16384x160 .f32) (ix3 b s d)
      = ∑ j : Fin 40, (Z (ix3 b s j) : EReal) * W (ix2 j d) := by
  pointwise
  refine Finset.sum_congr rfl fun j _ => congrArg₂ (· * ·) (congrArg Z (funext fun a => ?_)) (congrArg W (funext fun a => ?_))
  · match a with
    | ⟨0, _⟩ => rfl
    | ⟨1, _⟩ => rfl
    | ⟨2, _⟩ => rfl
  · match a with
    | ⟨0, _⟩ => rfl
    | ⟨1, _⟩ => rfl

/-- A row spread over the result. -/
theorem row_apply (X : FVec Ideal S160 .f32) (b : Fin 48) (s : Fin 16384) (d : Fin 160) :
    broadcastInDim S48x16384x160 ![0, 1, 2] bcast_S1x1x160_S48x16384x160_0_1_2 (broadcastInDim S1x1x160 ![2] bcast_S160_S1x1x160_2 X) (ix3 b s d) = X (ValueIdx.ix1 d) := by
  refine (broadcastInDim_apply _ _ _ _ (ix3 0 0 d) fun a => ?_).trans (broadcastInDim_apply _ _ _ _ (ValueIdx.ix1 d) fun a => ?_)
  · match a with
    | ⟨0, _⟩ => rfl
    | ⟨1, _⟩ => rfl
    | ⟨2, _⟩ => rfl
  · match a with
    | ⟨0, _⟩ => rfl

/-- **The reference's result**: at batch `b`, position `s`, channel `d` the decoded value of the codes. -/
theorem result (c : Dev nD) (hC : ∀ j, ((m ((c : Thread nD τ).loc main_arg0) : S48x16384x10.Idx → BitVec 32) j).toNat < 1000) :
    Pipeline.afterTail₀ cfgs (dats m) 0 (V0 m) [hostOps1] c main_v20 =
      (fun y : S48x16384x160.Idx => decoded (m ((c : Thread nD τ).loc main_arg0)) (m ((c : Thread nD τ).loc main_arg1))
        (m ((c : Thread nD τ).loc main_arg2)) (m ((c : Thread nD τ).loc main_arg3)) (y 0) (y 1) (y 2)) := by
  have h11 : Pipeline.withArrays (cfgs 0).spec c (V0 m c) (fun w => (dats m 0 c).arrAt w (cfgs 0).N) (Proc.devRef .tc main_v11) = V0 m c (Proc.devRef .tc main_v11) :=
    Pipeline.withArrays_of_ne _ c (V0 m c) _ main_v11 (by exact (by decide : ∀ w, Pipeline.arrRef spec0 w ≠ main_v11))
  have h2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have h12 : Pipeline.withArrays (cfgs 0).spec c (V0 m c) (fun w => (dats m 0 c).arrAt w (cfgs 0).N) (Proc.devRef .tc main_v12) = m ((c : Thread nD τ).loc main_arg1) :=
    (Pipeline.withArrays_arr (cfgs 0).spec (by decide) c (V0 m c) _ 1).trans (widened m c)
  unfold Pipeline.afterTail₀
  show StableHlo.after hostOps1 _ _ = _
  after_reads_simp
  rw [h11, h2, h3, h12, entry_v11]
  funext y
  obtain ⟨b, s, d, rfl⟩ : ∃ b s d, y = ix3 b s d := ⟨y 0, y 1, y 2, ValueIdx.eq_ix3 y⟩
  show (Host.dotGeneral dot_S48x16384x40_S40x160_S48x16384x160_2_0_01_1_n_n none _ _ : FVec Ideal S48x16384x160 .f32) (ix3 b s d)
    * broadcastInDim S48x16384x160 ![0, 1, 2] bcast_S1x1x160_S48x16384x160_0_1_2 (broadcastInDim S1x1x160 ![2] bcast_S160_S1x1x160_2 (m ((c : Thread nD τ).loc main_arg2) : FVec Ideal S160 .f32)) (ix3 b s d)
    + broadcastInDim S48x16384x160 ![0, 1, 2] bcast_S1x1x160_S48x16384x160_0_1_2 (broadcastInDim S1x1x160 ![2] bcast_S160_S1x1x160_2 (m ((c : Thread nD τ).loc main_arg3) : FVec Ideal S160 .f32)) (ix3 b s d) = _
  rw [row_apply, row_apply, dot_apply, sum_forty]
  unfold decoded latent
  refine congrArg₂ (· + ·) (congrArg₂ (· * ·) (Finset.sum_congr rfl fun k _ => Finset.sum_congr rfl fun g _ => ?_) rfl) rfl
  rw [normT_apply _ hC]
  exact mul_comm _ _

end Cert.ReferenceIdeal.Hand
end
-- ==== Proof.Algebraic.Claim.lean ====
module

public import proofs.«01_k».proof.Defs
public import proofs.«01_k».proof.Proof.KernelIdeal.Value
public import proofs.«01_k».proof.Proof.ReferenceIdeal.Value
public import Idealize.ShloMosaic.Lib.StableHlo.ReadAt
public import Idealize.ShloMosaic.Lib.ReduceAll
@[expose] public section
set_option maxRecDepth 16384
noncomputable section

namespace Cert.KernelIdeal.Hand
open Cert.KernelIdeal Cert.KernelIdeal.Gen
open Idealize.ShloMosaic hiding ix0 ix1 ix2 ix3 ix4 ix5
open Idealize.ShloMosaic.TcCoe Idealize.ShloMosaic.Tactic
open Idealize.SL.Sem
open Idealize.ShloMosaic.Pipeline (Dat)
open Idealize.ShloMosaic.ValueIdx

variable (m : (ℓ : Loc nD τ sig) → Buf (Elt Ideal) ℓ)

/-- **The kernel's result**: at batch `b`, position `s`, channel `d` the decoded value of the codes. -/
theorem result (c : Dev nD) (hC : ∀ j, ((m ((c : Thread nD τ).loc main_arg0) : S48x16384x10.Idx → BitVec 32) j).toNat < 1000) :
    Pipeline.afterTail₀ cfgs (dats m) 0 (V0 m) [hostOps1] c main_v6 =
      (fun y : S48x16384x160.Idx => decoded (m ((c : Thread nD τ).loc main_arg0)) (m ((c : Thread nD τ).loc main_arg1))
        (m ((c : Thread nD τ).loc main_arg2)) (m ((c : Thread nD τ).loc main_arg3)) (y 0) (y 1) (y 2)) := by
  have h5 : Pipeline.withArrays (cfgs 0).spec c (V0 m c) (fun w => (dats m 0 c).arrAt w (cfgs 0).N) (Proc.devRef .tc main_v5) = _ :=
    (Pipeline.withArrays_arr (cfgs 0).spec (by decide) c (V0 m c) _ 4).trans (final m c hC)
  unfold Pipeline.afterTail₀
  show StableHlo.after hostOps1 _ _ = _
  after_reads_simp
  rw [h5]
  funext y
  obtain ⟨b, s, d, rfl⟩ : ∃ b s d, y = ix3 b s d := ⟨y 0, y 1, y 2, ValueIdx.eq_ix3 y⟩
  refine (transpose_apply _ _ _ _ (ix3 b d s) fun a => ?_).trans rfl
  match a with
  | ⟨0, _⟩ => rfl
  | ⟨1, _⟩ => rfl
  | ⟨2, _⟩ => rfl
end Cert.KernelIdeal.Hand

namespace Cert.Proof
open Idealize.ShloMosaic Idealize.ShloMosaic.TcCoe Idealize.ShloMosaic.Tactic
open Idealize.SL.Sem

instance preFacts : Cert.Pre_in_range.Facts where
  bcast_S_S48x16384x10 := by decide
  reducesTo_S48x16384x10_S_d0_1_2 := by decide
  h_S_ := by decide

/-- Under the precondition every code is below 1000. -/
theorem codes_lt (m : (ℓ : Loc Cert.KernelIdeal.nD Cert.KernelIdeal.τ Cert.KernelIdeal.sig) → Buf (Elt Ideal) ℓ)
    (hpre : Cert.Pre_KernelIdeal_in_range m) (c : Dev Cert.KernelIdeal.nD) (j : Cert.KernelIdeal.S48x16384x10.Idx) :
    ((m ((c.tc : Thread Cert.KernelIdeal.nD Cert.KernelIdeal.τ).loc Cert.KernelIdeal.main_arg0) : Cert.KernelIdeal.S48x16384x10.Idx → BitVec 32) j).toNat < 1000 := by
  have h := hpre c
  dsimp only [Cert.Pre_in_range.fn] at h
  have h0 := congrFun h (fun a => a.elim0)
  haveI : Subsingleton Cert.Pre_in_range.S_.Idx := ⟨fun a b => funext fun i => i.elim0⟩
  have hj := Host.reduce_andi_all _ _ _ _ _ h0 j
  obtain ⟨h1, h2⟩ := IntOp.andi_eq_one.1 hj
  have hge := IntOp.cmpi_sge.1 h1
  have hlt := IntOp.cmpi_slt.1 h2
  have e0 : (0#32 : BitVec 32).toInt = 0 := by decide
  have e1 : (1000#32 : BitVec 32).toInt = 1000 := by decide
  replace hge : (0#32 : BitVec 32).toInt ≤ _ := hge
  replace hlt : _ < (1000#32 : BitVec 32).toInt := hlt
  rw [e0] at hge
  rw [e1] at hlt
  generalize (m ((c.tc : Thread Cert.KernelIdeal.nD Cert.KernelIdeal.τ).loc Cert.KernelIdeal.main_arg0) : Cert.KernelIdeal.S48x16384x10.Idx → BitVec 32) j = x at hge hlt ⊢
  rw [BitVec.toInt_eq_toNat_cond] at hge hlt
  split at hge <;> omega

set_option maxHeartbeats 1600000 in
/-- **The kernel and the reference agree**: from memories agreeing on the arguments, with every code in [0, 1000), both run and leave the same result, argument arrays unchanged. -/
theorem algebraic : Cert.algebraic_KernelIdeal_ReferenceIdeal_pre_in_range (hKernelIdeal := Cert.KernelIdeal.Gen.facts)
    (hReferenceIdeal := Cert.ReferenceIdeal.Gen.facts) := by
  pair_intro
  · run_from Cert.KernelIdeal.Hand.run_main m g
    · exact Cert.KernelIdeal.Gen.W_main_arg0 m (Cert.KernelIdeal.Hand.dats m) c
    · exact Cert.KernelIdeal.Gen.W_main_arg2 m (Cert.KernelIdeal.Hand.dats m) c
    · exact Cert.KernelIdeal.Gen.W_main_arg3 m (Cert.KernelIdeal.Hand.dats m) c
  · run_from Cert.ReferenceIdeal.Gen.run_main m' g'
    · have hC := codes_lt m hpre c
      have hC' : ∀ j, ((m' ((c.tc : Thread Cert.ReferenceIdeal.nD Cert.ReferenceIdeal.τ).loc Cert.ReferenceIdeal.main_arg0) :
          Cert.ReferenceIdeal.S48x16384x10.Idx → BitVec 32) j).toNat < 1000 := by
        rw [(hagree c).1]
        exact hC
      refine (Cert.ReferenceIdeal.Hand.result m' c hC').trans ?_
      rw [(hagree c).1, (hagree c).2.1, (hagree c).2.2.1, (hagree c).2.2.2]
      exact (Cert.KernelIdeal.Hand.result m c hC).symm
    · exact (Cert.ReferenceIdeal.Gen.W_main_arg0 m' (Cert.ReferenceIdeal.Gen.dats m') c).trans (hagree c).1
    · exact (Cert.ReferenceIdeal.Gen.W_main_arg2 m' (Cert.ReferenceIdeal.Gen.dats m') c).trans (hagree c).2.2.1
    · exact (Cert.ReferenceIdeal.Gen.W_main_arg3 m' (Cert.ReferenceIdeal.Gen.dats m') c).trans (hagree c).2.2.2
end Cert.Proof
end
-- ==== Proof.lean ====
/- The claims of the certificate: each program runs, leaves its arguments as they were and ends quiescent; the
   idealized kernel is the kernel's own text; and over the reals the kernel and the reference leave the same result
   whenever every code is in [0, 1000). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Algebraic.Claim

@[expose] public section

noncomputable section

namespace Cert.Proof

open Idealize.ShloMosaic Idealize.SL.Sem

/-- The certificate's claims. -/
theorem claim : Cert.Claim :=
  ⟨Cert.Kernel.Gen.facts, Cert.KernelIdeal.Gen.facts, Cert.ReferenceIdeal.Gen.facts, preFacts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial,
    algebraic⟩

end Cert.Proof

end
